-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite26 [hPre_finite26 : Cert.Pre_finite26.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))).1 = (fun _ => 1#1)
    ∧ (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))).2.1 = (fun _ => 1#1)
    ∧ (Cert.Pre_finite26.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))).2.2 = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite26 [hPre_finite26 : Cert.Pre_finite26.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))).1 = (fun _ => 1#1)
    ∧ (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))).2.1 = (fun _ => 1#1)
    ∧ (Cert.Pre_finite26.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Kernel26Ideal_pre_finite26 [hKernel26Ideal : Cert.Kernel26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite26 m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Reference26Ideal_pre_finite26 [hReference26Ideal : Cert.Reference26Ideal.Facts] [hPre_finite26 : Cert.Pre_finite26.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite26 m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def preserves_Kernel_KernelIdeal : Prop :=
  IdealRules.named_const.Statement Cert.KernelIdeal.κ "cube" .f32 0x3D372713#32 ((8943 / 200000 : ℝ) : EReal)
  ∧ IdealRules.named_const.Statement Cert.KernelIdeal.κ "cube3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_v76) = v3 c
          ∧ r.2.mem ((c.tc : Thread Cert.ReferenceIdeal.nD Cert.ReferenceIdeal.τ).loc Cert.ReferenceIdeal.main_v119) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v15) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v4) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v6) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v15) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v3) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v3) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal_pre_finite26 [hKernel26Ideal : Cert.Kernel26Ideal.Facts] [hReference26Ideal : Cert.Reference26Ideal.Facts] [hPre_finite26 : Cert.Pre_finite26.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite26 m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v72) = v0 c
          ∧ r.2.mem ((c.tc : Thread Cert.Reference26Ideal.nD Cert.Reference26Ideal.τ).loc Cert.Reference26Ideal.main_v70) = v1 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_finite : Cert.Pre_finite.Facts) (hPre_finite26 : Cert.Pre_finite26.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite26 (hKernel26Ideal := hKernel26Ideal) (hPre_finite26 := hPre_finite26)
    ∧ quiescent_Reference26Ideal (hReference26Ideal := hReference26Ideal)
    ∧ quiescent_Reference26Ideal_pre_finite26 (hReference26Ideal := hReference26Ideal) (hPre_finite26 := hPre_finite26)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite26 (hKernel26Ideal := hKernel26Ideal) (hReference26Ideal := hReference26Ideal) (hPre_finite26 := hPre_finite26)
-- ==== Pre_finite.lean ====
abbrev S4096x8192 : Shape := ⟨2, ![4096, 8192]⟩
abbrev S4096x4096 : Shape := ⟨2, ![4096, 4096]⟩
abbrev S1x4096 : Shape := ⟨2, ![1, 4096]⟩
abbrev S16x128x128 : Shape := ⟨3, ![16, 128, 128]⟩
abbrev S16x128 : Shape := ⟨2, ![16, 128]⟩
abbrev S_ : Shape := ⟨0, ![]⟩

class Facts : Prop where
  bcast_S_S4096x8192 : S_.BroadcastsInDim S4096x8192 (![] : Fin 0 → Fin S4096x8192.rank)
  bcast_S_S4096x4096 : S_.BroadcastsInDim S4096x4096 (![] : Fin 0 → Fin S4096x4096.rank)
  bcast_S_S1x4096 : S_.BroadcastsInDim S1x4096 (![] : Fin 0 → Fin S1x4096.rank)
  bcast_S_S16x128x128 : S_.BroadcastsInDim S16x128x128 (![] : Fin 0 → Fin S16x128x128.rank)
  bcast_S_S16x128 : S_.BroadcastsInDim S16x128 (![] : Fin 0 → Fin S16x128.rank)

variable [Facts]

def fn {F : FTy → Type} [FloatOps F] (main_arg0 : FVec F S4096x8192 .f32) (main_arg1 : FVec F S4096x4096 .f32) (main_arg2 : FVec F S1x4096 .f32) (main_arg3 : FVec F S1x4096 .f32) (main_arg4 : FVec F S16x128x128 .f32) (main_arg5 : FVec F S16x128 .f32) : IVec S4096x8192 1 × IVec S4096x4096 1 × IVec S1x4096 1 × IVec S1x4096 1 × IVec S16x128x128 1 × IVec S16x128 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : FVec F S1x4096 .f32 := Host.absf main_arg2
  let main_cst_1 : FVec F S_ .f32 := constant S_ .f32 0x7F800000#32
  let main_v7 : FVec F S1x4096 .f32 := broadcastInDim S1x4096 ![] bcast_S_S1x4096 main_cst_1
  let main_v8 : IVec S1x4096 1 := cmpf .olt main_v6 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_v12 : FVec F S16x128x128 .f32 := Host.absf main_arg4
  let main_cst_3 : FVec F S_ .f32 := constant S_ .f32 0x7F800000#32
  let main_v13 : FVec F S16x128x128 .f32 := broadcastInDim S16x128x128 ![] bcast_S_S16x128x128 main_cst_3
  let main_v14 : IVec S16x128x128 1 := cmpf .olt main_v12 main_v13
  let main_v15 : FVec F S16x128 .f32 := Host.absf main_arg5
  let main_cst_4 : FVec F S_ .f32 := constant S_ .f32 0x7F800000#32
  let main_v16 : FVec F S16x128 .f32 := broadcastInDim S16x128 ![] bcast_S_S16x128 main_cst_4
  let main_v17 : IVec S16x128 1 := cmpf .olt main_v15 main_v16
  (main_v2, main_v5, main_v8, main_v11, main_v14, main_v17)
-- ==== Pre_finite26.lean ====
abbrev S4096x512 : Shape := ⟨2, ![4096, 512]⟩
abbrev S256x1024 : Shape := ⟨2, ![256, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S256x1024 : S_.BroadcastsInDim S256x1024 (![] : Fin 0 → Fin S256x1024.rank)

variable [Facts]

def fn {F : FTy → Type} [FloatOps F] (main_arg0 : FVec F S4096x512 .bf16) (main_arg1 : FVec F S256x1024 .bf16) (main_arg2 : FVec F S4096x512 .f32) : IVec S4096x512 1 × IVec S256x1024 1 × IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_v8 : FVec F S4096x512 .f32 := Host.absf main_arg2
  let main_cst_1 : FVec F S_ .f32 := constant S_ .f32 0x7F800000#32
  let main_v9 : FVec F S4096x512 .f32 := broadcastInDim S4096x512 ![] bcast_S_S4096x512 main_cst_1
  let main_v10 : IVec S4096x512 1 := cmpf .olt main_v8 main_v9
  (main_v3, main_v7, main_v10)
-- ==== Kernel.lean ====
abbrev S4096x8192 : Shape := ⟨2, ![4096, 8192]⟩
abbrev S4096x4096 : Shape := ⟨2, ![4096, 4096]⟩
abbrev S1x4096 : Shape := ⟨2, ![1, 4096]⟩
abbrev S16x128x128 : Shape := ⟨3, ![16, 128, 128]⟩
abbrev S16x128 : Shape := ⟨2, ![16, 128]⟩
abbrev S128x16 : Shape := ⟨2, ![128, 16]⟩
abbrev S128x16x256 : Shape := ⟨3, ![128, 16, 256]⟩
abbrev S128x4096 : Shape := ⟨2, ![128, 4096]⟩
abbrev S128x128 : Shape := ⟨2, ![128, 128]⟩
abbrev S128x8192 : Shape := ⟨2, ![128, 8192]⟩
abbrev S128 : Shape := ⟨1, ![128]⟩
abbrev S128x1 : Shape := ⟨2, ![128, 1]⟩
abbrev S1x128x128 : Shape := ⟨3, ![1, 128, 128]⟩
abbrev S128x256 : Shape := ⟨2, ![128, 256]⟩
abbrev S4096 : Shape := ⟨1, ![4096]⟩
abbrev S4096x128 : Shape := ⟨2, ![4096, 128]⟩

abbrev nBuf : Space → Nat
  | .hbm => 14
  | .vmem => 16
  | .smem => 0
  | _ => 0

abbrev bufTy : (tb : Table) → Fin (tcTables nBuf tb) → BufTy
  | .hbm, ⟨0, _⟩ => ⟨S4096x8192, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S16x128x128, .f32⟩
  | .hbm, ⟨5, _⟩ => ⟨S16x128, .f32⟩
  | .hbm, ⟨6, _⟩ => ⟨S128x16, .f32⟩
  | .hbm, ⟨7, _⟩ => ⟨S128x16x256, .f32⟩
  | .hbm, ⟨8, _⟩ => ⟨S128x4096, .f32⟩
  | .hbm, ⟨9, _⟩ => ⟨S4096x8192, .bf16⟩
  | .hbm, ⟨10, _⟩ => ⟨S16x128x128, .f32⟩
  | .hbm, ⟨11, _⟩ => ⟨S1x4096, .f32⟩
  | .hbm, ⟨12, _⟩ => ⟨S1x4096, .f32⟩
  | .hbm, ⟨13, _⟩ => ⟨S128x128, .f32⟩
  | .local _ .vmem, ⟨0, _⟩ => ⟨S128x8192, .f32⟩
  | .local _ .vmem, ⟨1, _⟩ => ⟨S128x8192, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S16x128x128, .f32⟩
  | .local _ .vmem, ⟨7, _⟩ => ⟨S128x4096, .f32⟩
  | .local _ .vmem, ⟨8, _⟩ => ⟨S128x8192, .bf16⟩
  | .local _ .vmem, ⟨9, _⟩ => ⟨S128x8192, .bf16⟩
  | .local _ .vmem, ⟨10, _⟩ => ⟨S16x128x128, .f32⟩
  | .local _ .vmem, ⟨11, _⟩ => ⟨S1x4096, .f32⟩
  | .local _ .vmem, ⟨12, _⟩ => ⟨S1x4096, .f32⟩
  | .local _ .vmem, ⟨13, _⟩ => ⟨S128x128, .f32⟩
  | .local _ .vmem, ⟨14, _⟩ => ⟨S128x4096, .f32⟩
  | .local _ .vmem, ⟨15, _⟩ => ⟨S128x4096, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v1159 : BitVec 1 := Scalar.cmpi .eq arg0 c31_i32
  let v1160 : BitVec 32 := Scalar.extui v1159
  let c0_i32_578 : BitVec 32 := 0#32
  let v1161 : BitVec 1 := Scalar.cmpi .ne v1160 c0_i32_578
  v1161

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "cube" => some ((8943 / 200000 : ℝ) : EReal)
  | "cube3" => some ((26829 / 200000 : ℝ) : EReal)
  | _ => none
-- ==== ReferenceIdeal.lean ====
abbrev S4096x8192 : Shape := ⟨2, ![4096, 8192]⟩
abbrev S4096x4096 : Shape := ⟨2, ![4096, 4096]⟩
abbrev S1x4096 : Shape := ⟨2, ![1, 4096]⟩
abbrev S16x128x128 : Shape := ⟨3, ![16, 128, 128]⟩
abbrev S16x128 : Shape := ⟨2, ![16, 128]⟩
abbrev S_ : Shape := ⟨0, ![]⟩
abbrev S4096 : Shape := ⟨1, ![4096]⟩
abbrev S4096x1 : Shape := ⟨2, ![4096, 1]⟩
abbrev S32x128x16x256 : Shape := ⟨4, ![32, 128, 16, 256]⟩
abbrev S128x128 : Shape := ⟨2, ![128, 128]⟩
abbrev S1x128x128 : Shape := ⟨3, ![1, 128, 128]⟩
abbrev S16x32x256x128 : Shape := ⟨4, ![16, 32, 256, 128]⟩
abbrev S128x16 : Shape := ⟨2, ![128, 16]⟩
abbrev S1x128x16x1 : Shape := ⟨4, ![1, 128, 16, 1]⟩

abbrev nBuf : Space → Nat
  | .hbm => 163
  | .vmem => 0
  | .smem => 0
  | _ => 0

abbrev hbmTy0_0 (i : Nat) : BufTy := match i % 128 with
  | 0 => ⟨S4096x8192, .f32⟩
  | 1 => ⟨S4096x4096, .f32⟩
  | 2 => ⟨S1x4096, .f32⟩
  | 3 => ⟨S1x4096, .f32⟩
  | 4 => ⟨S16x128x128, .f32⟩
  | 5 => ⟨S16x128, .f32⟩
  | 6 => ⟨S_, .f32⟩
  | 7 => ⟨S_, .f32⟩
  | 8 => ⟨S_, .f32⟩
  | 9 => ⟨S4096x8192, .f32⟩
  | 10 => ⟨S4096x8192, .f32⟩
  | 11 => ⟨S4096x8192, .f32⟩
  | 12 => ⟨S_, .f32⟩
  | 13 => ⟨S4096x8192, .f32⟩
  | 14 => ⟨S4096x8192, .f32⟩
  | 15 => ⟨S4096x8192, .f32⟩
  | 16 => ⟨S4096x8192, .f32⟩
  | 17 => ⟨S4096x8192, .f32⟩
  | 18 => ⟨S_, .f32⟩
  | 19 => ⟨S4096x8192, .f32⟩
  | 20 => ⟨S4096x8192, .f32⟩
  | 21 => ⟨S4096x8192, .f32⟩
  | 22 => ⟨S_, .f32⟩
  | 23 => ⟨S4096x8192, .f32⟩
  | 24 => ⟨S4096x8192, .f32⟩
  | 25 => ⟨S_, .f32⟩
  | 26 => ⟨S4096x8192, .f32⟩
  | 27 => ⟨S4096x8192, .f32⟩
  | 28 => ⟨S4096x8192, .f32⟩
  | 29 => ⟨S_, .f32⟩
  | 30 => ⟨S4096x8192, .f32⟩
  | 31 => ⟨S4096x8192, .f32⟩
  | 32 => ⟨S_, .f32⟩
  | 33 => ⟨S4096x8192, .f32⟩
  | 34 => ⟨S4096x8192, .f32⟩
  | 35 => ⟨S4096x8192, .f32⟩
  | 36 => ⟨S4096x4096, .f32⟩
  | 37 => ⟨S4096x4096, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S4096x4096, .f32⟩
  | 45 => ⟨S4096x4096, .f32⟩
  | 46 => ⟨S4096x4096, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S_, .f32⟩
  | 54 => ⟨S4096x1, .f32⟩
  | 55 => ⟨S4096x1, .f32⟩
  | 56 => ⟨S4096x1, .f32⟩
  | 57 => ⟨S4096x1, .f32⟩
  | 58 => ⟨S_, .f32⟩
  | 59 => ⟨S4096x1, .f32⟩
  | 60 => ⟨S4096x1, .f32⟩
  | 61 => ⟨S4096x4096, .f32⟩
  | 62 => ⟨S4096x4096, .f32⟩
  | 63 => ⟨S4096x4096, .f32⟩
  | 64 => ⟨S4096x4096, .f32⟩
  | 65 => ⟨S4096x4096, .f32⟩
  | 66 => ⟨S4096x4096, .f32⟩
  | 67 => ⟨S32x128x16x256, .f32⟩
  | 68 => ⟨S_, .f32⟩
  | 69 => ⟨S128x128, .f32⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .f32⟩
  | 77 => ⟨S128x128, .f32⟩
  | 78 => ⟨S128x128, .f32⟩
  | 79 => ⟨S1x128x128, .f32⟩
  | 80 => ⟨S16x128x128, .f32⟩
  | 81 => ⟨S16x128x128, .f32⟩
  | 82 => ⟨S16x32x256x128, .f32⟩
  | 83 => ⟨S32x128x16x256, .f32⟩
  | 84 => ⟨S128x16, .f32⟩
  | 85 => ⟨S1x128x16x1, .f32⟩
  | 86 => ⟨S32x128x16x256, .f32⟩
  | 87 => ⟨S32x128x16x256, .f32⟩
  | 88 => ⟨S4096x4096, .f32⟩
  | 89 => ⟨S4096x4096, .f32⟩
  | 90 => ⟨S4096x4096, .f32⟩
  | 91 => ⟨S4096x4096, .f32⟩
  | 92 => ⟨S32x128x16x256, .f32⟩
  | 93 => ⟨S_, .f32⟩
  | 94 => ⟨S128x16, .f32⟩
  | 95 => ⟨S1x128x16x1, .f32⟩
  | 96 => ⟨S_, .f32⟩
  | 97 => ⟨S128x16, .f32⟩
  | 98 => ⟨S16x128, .f32⟩
  | 99 => ⟨S16x32x256x128, .f32⟩
  | 100 => ⟨S16x128x128, .f32⟩
  | 101 => ⟨S16x32x256x128, .f32⟩
  | 102 => ⟨S32x128x16x256, .f32⟩
  | 103 => ⟨S16x128x128, .f32⟩
  | 104 => ⟨S16x128x128, .f32⟩
  | 105 => ⟨S4096x4096, .f32⟩
  | 106 => ⟨S_, .f32⟩
  | 107 => ⟨S4096, .f32⟩
  | 108 => ⟨S1x4096, .f32⟩
  | 109 => ⟨S4096x4096, .f32⟩
  | 110 => ⟨S_, .f32⟩
  | 111 => ⟨S4096, .f32⟩
  | 112 => ⟨S1x4096, .f32⟩
  | 113 => ⟨S4096x4096, .f32⟩
  | 114 => ⟨S4096x4096, .f32⟩
  | 115 => ⟨S4096x4096, .f32⟩
  | 116 => ⟨S_, .f32⟩
  | 117 => ⟨S4096, .f32⟩
  | 118 => ⟨S4096x1, .f32⟩
  | 119 => ⟨S4096x4096, .f32⟩
  | 120 => ⟨S4096x4096, .f32⟩
  | 121 => ⟨S4096x1, .f32⟩
  | 122 => ⟨S_, .f32⟩
  | 123 => ⟨S4096x1, .f32⟩
  | 124 => ⟨S4096x1, .f32⟩
  | 125 => ⟨S_, .f32⟩
  | 126 => ⟨S4096, .f32⟩
  | 127 => ⟨S4096x4096, .f32⟩
  | _ => ⟨S4096x8192, .f32⟩

abbrev hbmTy0_1 (i : Nat) : BufTy := match i % 128 with
  | 0 => ⟨S4096x4096, .f32⟩
  | 1 => ⟨S4096x4096, .f32⟩
  | 2 => ⟨S4096x4096, .f32⟩
  | 3 => ⟨S4096x4096, .f32⟩
  | 4 => ⟨S4096x4096, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x4096, .f32⟩
  | 14 => ⟨S4096x4096, .f32⟩
  | 15 => ⟨S4096x8192, .f32⟩
  | 16 => ⟨S4096x8192, .f32⟩
  | 17 => ⟨S4096x8192, .f32⟩
  | 18 => ⟨S_, .f32⟩
  | 19 => ⟨S4096x8192, .f32⟩
  | 20 => ⟨S4096x8192, .f32⟩
  | 21 => ⟨S4096x8192, .f32⟩
  | 22 => ⟨S_, .f32⟩
  | 23 => ⟨S4096x8192, .f32⟩
  | 24 => ⟨S4096x8192, .f32⟩
  | 25 => ⟨S4096x8192, .f32⟩
  | 26 => ⟨S4096x8192, .f32⟩
  | 27 => ⟨S4096x8192, .f32⟩
  | 28 => ⟨S4096x8192, .f32⟩
  | 29 => ⟨S4096x8192, .f32⟩
  | 30 => ⟨S4096x8192, .bf16⟩
  | 31 => ⟨S128x16, .f32⟩
  | 32 => ⟨S_, .i32⟩
  | 33 => ⟨S_, .f32⟩
  | 34 => ⟨S128x128, .f32⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_cst_10 : Ref sig .tc := ⟨.hbm, 50, rfl⟩
abbrev main_v33 : Ref sig .tc := ⟨.hbm, 51, rfl⟩
abbrev main_v34 : Ref sig .tc := ⟨.hbm, 52, rfl⟩
abbrev main_cst_11 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_13 : Ref sig .tc := ⟨.hbm, 68, rfl⟩
abbrev main_v48 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_cst : Ref sig .tc := ⟨.hbm, 76, rfl⟩
abbrev main_call0_v5 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_14 : Ref sig .tc := ⟨.hbm, 93, rfl⟩
abbrev main_v64 : Ref sig .tc := ⟨.hbm, 94, rfl⟩
abbrev main_v65 : Ref sig .tc := ⟨.hbm, 95, rfl⟩
abbrev main_cst_15 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_16 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_17 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_18 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_19 : Ref sig .tc := ⟨.hbm, 122, rfl⟩
abbrev main_v88 : Ref sig .tc := ⟨.hbm, 123, rfl⟩
abbrev main_v89 : Ref sig .tc := ⟨.hbm, 124, rfl⟩
abbrev main_cst_20 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c : Ref sig .tc := ⟨.hbm, 160, rfl⟩
abbrev main_call1_v0 : Ref sig .tc := ⟨.hbm, 161, rfl⟩
abbrev main_v119 : Ref sig .tc := ⟨.hbm, 162, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4x1408x2048 : Shape := ⟨3, ![4, 1408, 2048]⟩
abbrev S4x1x1408x2048 : Shape := ⟨4, ![4, 1, 1408, 2048]⟩
abbrev S4096x5632 : Shape := ⟨2, ![4096, 5632]⟩
abbrev S1024x2048 : Shape := ⟨2, ![1024, 2048]⟩
abbrev S1x1x1408x2048 : Shape := ⟨4, ![1, 1, 1408, 2048]⟩
abbrev S1024x1408 : Shape := ⟨2, ![1024, 1408]⟩
abbrev S1408x2048 : Shape := ⟨2, ![1408, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S5632x2048, .bf16⟩
  | .hbm, ⟨3, _⟩ => ⟨S4x1408x2048, .bf16⟩
  | .hbm, ⟨4, _⟩ => ⟨S4x1x1408x2048, .bf16⟩
  | .hbm, ⟨5, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1024x1408, .f32⟩
  | .local _ .vmem, ⟨5, _⟩ => ⟨S1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .f32⟩
  | .hbm, ⟨2, _⟩ => ⟨S_, .f32⟩
  | .hbm, ⟨3, _⟩ => ⟨S4096x5632, .f32⟩
  | .hbm, ⟨4, _⟩ => ⟨S4096x2048, .f32⟩
  | .hbm, ⟨5, _⟩ => ⟨S4096x2048, .f32⟩
  | .hbm, ⟨6, _⟩ => ⟨S4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S2x4096x5632 : Shape := ⟨3, ![2, 4096, 5632]⟩
abbrev S4x2048x2816 : Shape := ⟨3, ![4, 2048, 2816]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S4x2048x2816, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩
abbrev S2048x2816 : Shape := ⟨2, ![2048, 2816]⟩
abbrev S1x2048x2816 : Shape := ⟨3, ![1, 2048, 2816]⟩
abbrev S4x2048x2816 : Shape := ⟨3, ![4, 2048, 2816]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x5632, .f32⟩
  | .hbm, ⟨7, _⟩ => ⟨S4096x5632, .f32⟩
  | .hbm, ⟨8, _⟩ => ⟨S1x4096x5632, .f32⟩
  | .hbm, ⟨9, _⟩ => ⟨S1x4096x5632, .f32⟩
  | .hbm, ⟨10, _⟩ => ⟨S2x4096x5632, .f32⟩
  | .hbm, ⟨11, _⟩ => ⟨S2x4096x5632, .f32⟩
  | .hbm, ⟨12, _⟩ => ⟨S1x4096x5632, .f32⟩
  | .hbm, ⟨13, _⟩ => ⟨S4096x5632, .f32⟩
  | .hbm, ⟨14, _⟩ => ⟨S1x4096x5632, .f32⟩
  | .hbm, ⟨15, _⟩ => ⟨S4096x5632, .f32⟩
  | .hbm, ⟨16, _⟩ => ⟨S_, .f32⟩
  | .hbm, ⟨17, _⟩ => ⟨S4096x11264, .f32⟩
  | .hbm, ⟨18, _⟩ => ⟨S_, .f32⟩
  | .hbm, ⟨19, _⟩ => ⟨S4096x11264, .f32⟩
  | .hbm, ⟨20, _⟩ => ⟨S4096x11264, .f32⟩
  | .hbm, ⟨21, _⟩ => ⟨S11264x2048, .f32⟩
  | .hbm, ⟨22, _⟩ => ⟨S2048x11264, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S1x2048x2816, .f32⟩
  | .hbm, ⟨28, _⟩ => ⟨S1x2048x2816, .f32⟩
  | .hbm, ⟨29, _⟩ => ⟨S1x2048x2816, .f32⟩
  | .hbm, ⟨30, _⟩ => ⟨S1x2048x2816, .f32⟩
  | .hbm, ⟨31, _⟩ => ⟨S4x2048x2816, .f32⟩
  | .hbm, ⟨32, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== Kernel5.lean ====
abbrev S2x4096x5632 : Shape := ⟨3, ![2, 4096, 5632]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S4096x2048 : Shape := ⟨2, ![4096, 2048]⟩
abbrev S1x1024x2816 : Shape := ⟨3, ![1, 1024, 2816]⟩
abbrev S1x1x1024x2816 : Shape := ⟨4, ![1, 1, 1024, 2816]⟩
abbrev S1024x1024 : Shape := ⟨2, ![1024, 1024]⟩
abbrev S1024x2816 : Shape := ⟨2, ![1024, 2816]⟩

abbrev nBuf : Space → Nat
  | .hbm => 7
  | .vmem => 7
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S4x1x2048x2816, .bf16⟩
  | .hbm, ⟨6, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1x1x1024x2816, .bf16⟩
  | .local _ .vmem, ⟨3, _⟩ => ⟨S1x1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_9 : BitVec 32 := 0#32
  let v13 : BitVec 1 := Scalar.cmpi .ne v12 c0_i32_9
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x4096x5632 : Shape := ⟨3, ![2, 4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 21
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .f32⟩
  | .hbm, ⟨2, _⟩ => ⟨S_, .f32⟩
  | .hbm, ⟨3, _⟩ => ⟨S4096x2048, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | .hbm, ⟨10, _⟩ => ⟨S2x4096x5632, .f32⟩
  | .hbm, ⟨11, _⟩ => ⟨S1x4096x5632, .f32⟩
  | .hbm, ⟨12, _⟩ => ⟨S4096x5632, .f32⟩
  | .hbm, ⟨13, _⟩ => ⟨S1x4096x5632, .f32⟩
  | .hbm, ⟨14, _⟩ => ⟨S4096x5632, .f32⟩
  | .hbm, ⟨15, _⟩ => ⟨S_, .f32⟩
  | .hbm, ⟨16, _⟩ => ⟨S4096x11264, .f32⟩
  | .hbm, ⟨17, _⟩ => ⟨S_, .f32⟩
  | .hbm, ⟨18, _⟩ => ⟨S4096x11264, .f32⟩
  | .hbm, ⟨19, _⟩ => ⟨S4096x11264, .f32⟩
  | .hbm, ⟨20, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Kernel6.lean ====
abbrev S4096x2048 : Shape := ⟨2, ![4096, 2048]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S4x1x2048x2816 : Shape := ⟨4, ![4, 1, 2048, 2816]⟩
abbrev S2x4096x5632 : Shape := ⟨3, ![2, 4096, 5632]⟩
abbrev S1024x2048 : Shape := ⟨2, ![1024, 2048]⟩
abbrev S1x1x2048x1408 : Shape := ⟨4, ![1, 1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S4x1x2048x2816, .bf16⟩
  | .hbm, ⟨6, _⟩ => ⟨S2x4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1408, .bf16⟩
  | .local _ .vmem, ⟨3, _⟩ => ⟨S1x1x2048x1408, .bf16⟩
  | .local _ .vmem, ⟨4, _⟩ => ⟨S1x1024x1408, .f32⟩
  | .local _ .vmem, ⟨5, _⟩ => ⟨S1x1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .f32⟩
  | .hbm, ⟨2, _⟩ => ⟨S4096x2048, .f32⟩
  | .hbm, ⟨3, _⟩ => ⟨S4096x11264, .f32⟩
  | .hbm, ⟨4, _⟩ => ⟨S4096x5632, .f32⟩
  | .hbm, ⟨5, _⟩ => ⟨S4096x5632, .f32⟩
  | .hbm, ⟨6, _⟩ => ⟨S1x4096x5632, .f32⟩
  | .hbm, ⟨7, _⟩ => ⟨S1x4096x5632, .f32⟩
  | .hbm, ⟨8, _⟩ => ⟨S2x4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4x1408x2048 : Shape := ⟨3, ![4, 1408, 2048]⟩
abbrev S4x1x1408x2048 : Shape := ⟨4, ![4, 1, 1408, 2048]⟩
abbrev S4096x2048 : Shape := ⟨2, ![4096, 2048]⟩
abbrev S1024x1408 : Shape := ⟨2, ![1024, 1408]⟩
abbrev S1x1x1408x2048 : Shape := ⟨4, ![1, 1, 1408, 2048]⟩
abbrev S1024x2048 : Shape := ⟨2, ![1024, 2048]⟩
abbrev S1408x2048 : Shape := ⟨2, ![1408, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S5632x2048, .bf16⟩
  | .hbm, ⟨3, _⟩ => ⟨S4x1408x2048, .bf16⟩
  | .hbm, ⟨4, _⟩ => ⟨S4x1x1408x2048, .bf16⟩
  | .hbm, ⟨5, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x1x1408x2048, .bf16⟩
  | .local _ .vmem, ⟨3, _⟩ => ⟨S1x1x1408x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x5632, .f32⟩
  | .hbm, ⟨3, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S4096x4096 : Shape := ⟨2, ![4096, 4096]⟩
abbrev S4096x2048 : Shape := ⟨2, ![4096, 2048]⟩
abbrev S4x1024x2048 : Shape := ⟨3, ![4, 1024, 2048]⟩
abbrev S4x1x1024x2048 : Shape := ⟨4, ![4, 1, 1024, 2048]⟩
abbrev S1024x1024 : Shape := ⟨2, ![1024, 1024]⟩
abbrev S1x1x1024x1024 : Shape := ⟨4, ![1, 1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x2048, .bf16⟩
  | .hbm, ⟨3, _⟩ => ⟨S4x1024x2048, .bf16⟩
  | .hbm, ⟨4, _⟩ => ⟨S4x1x1024x2048, .bf16⟩
  | .hbm, ⟨5, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1x1024x1024, .bf16⟩
  | .local _ .vmem, ⟨3, _⟩ => ⟨S1x1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x4096 : Shape := ⟨2, ![4096, 4096]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .f32⟩
  | .hbm, ⟨2, _⟩ => ⟨S4096x4096, .f32⟩
  | .hbm, ⟨3, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel9.lean ====
abbrev S4096x2048 : Shape := ⟨2, ![4096, 2048]⟩
abbrev S4x1024x2048 : Shape := ⟨3, ![4, 1024, 2048]⟩
abbrev S4x1x1024x2048 : Shape := ⟨4, ![4, 1, 1024, 2048]⟩
abbrev S4096x4096 : Shape := ⟨2, ![4096, 4096]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S4096x2048, .bf16⟩
  | .hbm, ⟨3, _⟩ => ⟨S4x1024x2048, .bf16⟩
  | .hbm, ⟨4, _⟩ => ⟨S4x1x1024x2048, .bf16⟩
  | .hbm, ⟨5, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S4096x4096, .f32⟩
  | .hbm, ⟨4, _⟩ => ⟨S4096x2048, .f32⟩
  | .hbm, ⟨5, _⟩ => ⟨S4096x2048, .f32⟩
  | .hbm, ⟨6, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4096x4096 : Shape := ⟨2, ![4096, 4096]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x4096 : Shape := ⟨2, ![4096, 4096]⟩
abbrev S4096x2048 : Shape := ⟨2, ![4096, 2048]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S_, .f32⟩
  | .hbm, ⟨3, _⟩ => ⟨S4096x2048, .f32⟩
  | .hbm, ⟨4, _⟩ => ⟨S4096x4096, .f32⟩
  | .hbm, ⟨5, _⟩ => ⟨S4096x2048, .f32⟩
  | .hbm, ⟨6, _⟩ => ⟨S4096x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S4096x8192 : Shape := ⟨2, ![4096, 8192]⟩
abbrev S1024x2048 : Shape := ⟨2, ![1024, 2048]⟩
abbrev S1x1x2048x1024 : Shape := ⟨4, ![1, 1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4x1x2048x2048, .bf16⟩
  | .hbm, ⟨6, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x8192 : Shape := ⟨2, ![2048, 8192]⟩
abbrev S4096x8192 : Shape := ⟨2, ![4096, 8192]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .f32⟩
  | .hbm, ⟨2, _⟩ => ⟨S4096x2048, .f32⟩
  | .hbm, ⟨3, _⟩ => ⟨S4096x8192, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S4096x8192 : Shape := ⟨2, ![4096, 8192]⟩
abbrev S2048x8192 : Shape := ⟨2, ![2048, 8192]⟩
abbrev S2048x4x2048 : Shape := ⟨3, ![2048, 4, 2048]⟩
abbrev S4x2048x2048 : Shape := ⟨3, ![4, 2048, 2048]⟩
abbrev S4x1x2048x2048 : Shape := ⟨4, ![4, 1, 2048, 2048]⟩
abbrev S4096x2048 : Shape := ⟨2, ![4096, 2048]⟩
abbrev S1024x2048 : Shape := ⟨2, ![1024, 2048]⟩
abbrev S1x1x1024x2048 : Shape := ⟨4, ![1, 1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S2048x8192, .bf16⟩
  | .hbm, ⟨3, _⟩ => ⟨S2048x4x2048, .bf16⟩
  | .hbm, ⟨4, _⟩ => ⟨S4x2048x2048, .bf16⟩
  | .hbm, ⟨5, _⟩ => ⟨S4x1x2048x2048, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x8192 : Shape := ⟨2, ![4096, 8192]⟩
abbrev S2048x8192 : Shape := ⟨2, ![2048, 8192]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S2048x8192, .f32⟩
  | .hbm, ⟨2, _⟩ => ⟨S_, .f32⟩
  | .hbm, ⟨3, _⟩ => ⟨S4096x2048, .f32⟩
  | .hbm, ⟨4, _⟩ => ⟨S4096x8192, .f32⟩
  | .hbm, ⟨5, _⟩ => ⟨S4096x8192, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S4096x2048 : Shape := ⟨2, ![4096, 2048]⟩
abbrev S4096x8192 : Shape := ⟨2, ![4096, 8192]⟩
abbrev S4x2048x2048 : Shape := ⟨3, ![4, 2048, 2048]⟩
abbrev S4096x512 : Shape := ⟨2, ![4096, 512]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S4x2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S1x512x1024, .bf16⟩
  | .local _ .vmem, ⟨5, _⟩ => ⟨S1x512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x2048 : Shape := ⟨2, ![4096, 2048]⟩
abbrev S4096x8192 : Shape := ⟨2, ![4096, 8192]⟩
abbrev S_ : Shape := ⟨0, ![]⟩
abbrev S2048x8192 : Shape := ⟨2, ![2048, 8192]⟩
abbrev S8192x2048 : Shape := ⟨2, ![8192, 2048]⟩
abbrev S2048x2048 : Shape := ⟨2, ![2048, 2048]⟩
abbrev S1x2048x2048 : Shape := ⟨3, ![1, 2048, 2048]⟩
abbrev S4x2048x2048 : Shape := ⟨3, ![4, 2048, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x8192, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x8192, .f32⟩
  | .hbm, ⟨7, _⟩ => ⟨S8192x2048, .f32⟩
  | .hbm, ⟨8, _⟩ => ⟨S2048x8192, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S1x2048x2048, .f32⟩
  | .hbm, ⟨14, _⟩ => ⟨S1x2048x2048, .f32⟩
  | .hbm, ⟨15, _⟩ => ⟨S1x2048x2048, .f32⟩
  | .hbm, ⟨16, _⟩ => ⟨S1x2048x2048, .f32⟩
  | .hbm, ⟨17, _⟩ => ⟨S4x2048x2048, .f32⟩
  | .hbm, ⟨18, _⟩ => ⟨S4x2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel14.lean ====
abbrev S4096x2048 : Shape := ⟨2, ![4096, 2048]⟩
abbrev S2048x10304 : Shape := ⟨2, ![2048, 10304]⟩
abbrev S1x2048x10304 : Shape := ⟨3, ![1, 2048, 10304]⟩
abbrev S1x2048x4096 : Shape := ⟨3, ![1, 2048, 4096]⟩
abbrev S1x2048x6144 : Shape := ⟨3, ![1, 2048, 6144]⟩
abbrev S4096x4096 : Shape := ⟨2, ![4096, 4096]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .f32⟩
  | .hbm, ⟨2, _⟩ => ⟨S2048x10304, .bf16⟩
  | .hbm, ⟨3, _⟩ => ⟨S1x2048x10304, .bf16⟩
  | .hbm, ⟨4, _⟩ => ⟨S1x2048x4096, .bf16⟩
  | .hbm, ⟨5, _⟩ => ⟨S1x2048x6144, .bf16⟩
  | .hbm, ⟨6, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S2048x10304 : Shape := ⟨2, ![2048, 10304]⟩
abbrev S2048x4096 : Shape := ⟨2, ![2048, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .f32⟩
  | .hbm, ⟨2, _⟩ => ⟨S4096x2048, .f32⟩
  | .hbm, ⟨3, _⟩ => ⟨S2048x4096, .f32⟩
  | .hbm, ⟨4, _⟩ => ⟨S4096x4096, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S4096x4096 : Shape := ⟨2, ![4096, 4096]⟩
abbrev S2048x10304 : Shape := ⟨2, ![2048, 10304]⟩
abbrev S1x2048x10304 : Shape := ⟨3, ![1, 2048, 10304]⟩
abbrev S1x2048x4096 : Shape := ⟨3, ![1, 2048, 4096]⟩
abbrev S1x2048x6144 : Shape := ⟨3, ![1, 2048, 6144]⟩
abbrev S4096x2048 : Shape := ⟨2, ![4096, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S2048x10304, .f32⟩
  | .hbm, ⟨2, _⟩ => ⟨S2048x10304, .bf16⟩
  | .hbm, ⟨3, _⟩ => ⟨S1x2048x10304, .bf16⟩
  | .hbm, ⟨4, _⟩ => ⟨S1x2048x4096, .bf16⟩
  | .hbm, ⟨5, _⟩ => ⟨S1x2048x6144, .bf16⟩
  | .hbm, ⟨6, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x4096 : Shape := ⟨2, ![4096, 4096]⟩
abbrev S2048x10304 : Shape := ⟨2, ![2048, 10304]⟩
abbrev S_ : Shape := ⟨0, ![]⟩
abbrev S4096x2048 : Shape := ⟨2, ![4096, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S2048x10304, .f32⟩
  | .hbm, ⟨2, _⟩ => ⟨S_, .f32⟩
  | .hbm, ⟨3, _⟩ => ⟨S4096x2048, .f32⟩
  | .hbm, ⟨4, _⟩ => ⟨S2048x4096, .f32⟩
  | .hbm, ⟨5, _⟩ => ⟨S4096x4096, .f32⟩
  | .hbm, ⟨6, _⟩ => ⟨S4096x4096, .f32⟩
  | .hbm, ⟨7, _⟩ => ⟨S4096x2048, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S4096x4096 : Shape := ⟨2, ![4096, 4096]⟩
abbrev S2048x4096 : Shape := ⟨2, ![2048, 4096]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S2048x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S4096x4096 : Shape := ⟨2, ![4096, 4096]⟩
abbrev S_ : Shape := ⟨0, ![]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4096, .bf16⟩
  | .hbm, ⟨2, _⟩ => ⟨S_, .f32⟩
  | .hbm, ⟨3, _⟩ => ⟨S2048x4096, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S2048x4096, .f32⟩
  | .hbm, ⟨9, _⟩ => ⟨S2048x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x2048 : Shape := ⟨2, ![4096, 2048]⟩
abbrev S2048x10304 : Shape := ⟨2, ![2048, 10304]⟩
abbrev S1x2048x10304 : Shape := ⟨3, ![1, 2048, 10304]⟩
abbrev S1x2048x4096 : Shape := ⟨3, ![1, 2048, 4096]⟩
abbrev S1x2048x6144 : Shape := ⟨3, ![1, 2048, 6144]⟩
abbrev S4096x6144 : Shape := ⟨2, ![4096, 6144]⟩
abbrev S1024x2048 : Shape := ⟨2, ![1024, 2048]⟩
abbrev S1x2048x1536 : Shape := ⟨3, ![1, 2048, 1536]⟩
abbrev S1024x1536 : Shape := ⟨2, ![1024, 1536]⟩
abbrev S2048x1536 : Shape := ⟨2, ![2048, 1536]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .f32⟩
  | .hbm, ⟨2, _⟩ => ⟨S2048x10304, .bf16⟩
  | .hbm, ⟨3, _⟩ => ⟨S1x2048x10304, .bf16⟩
  | .hbm, ⟨4, _⟩ => ⟨S1x2048x4096, .bf16⟩
  | .hbm, ⟨5, _⟩ => ⟨S1x2048x6144, .bf16⟩
  | .hbm, ⟨6, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .bf16⟩
  | .local _ .vmem, ⟨3, _⟩ => ⟨S1x2048x1536, .bf16⟩
  | .local _ .vmem, ⟨4, _⟩ => ⟨S1024x1536, .f32⟩
  | .local _ .vmem, ⟨5, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S2048x10304 : Shape := ⟨2, ![2048, 10304]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x10304, .f32⟩
  | .hbm, ⟨2, _⟩ => ⟨S4096x2048, .f32⟩
  | .hbm, ⟨3, _⟩ => ⟨S2048x6144, .f32⟩
  | .hbm, ⟨4, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4096x6144 : Shape := ⟨2, ![4096, 6144]⟩
abbrev S2048x10304 : Shape := ⟨2, ![2048, 10304]⟩
abbrev S4096x2048 : Shape := ⟨2, ![4096, 2048]⟩
abbrev S1x2048x10304 : Shape := ⟨3, ![1, 2048, 10304]⟩
abbrev S1x2048x4096 : Shape := ⟨3, ![1, 2048, 4096]⟩
abbrev S1x2048x6144 : Shape := ⟨3, ![1, 2048, 6144]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 8
  | .vmem => 9
  | .smem => 0
  | _ => 0

abbrev bufTy : (tb : Table) → Fin (tcTables nBuf tb) → BufTy
  | .hbm, ⟨0, _⟩ => ⟨S4096x6144, .bf16⟩
  | .hbm, ⟨1, _⟩ => ⟨S2048x10304, .f32⟩
  | .hbm, ⟨2, _⟩ => ⟨S4096x2048, .f32⟩
  | .hbm, ⟨3, _⟩ => ⟨S2048x10304, .bf16⟩
  | .hbm, ⟨4, _⟩ => ⟨S1x2048x10304, .bf16⟩
  | .hbm, ⟨5, _⟩ => ⟨S1x2048x4096, .bf16⟩
  | .hbm, ⟨6, _⟩ => ⟨S1x2048x6144, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x6144 : Shape := ⟨2, ![4096, 6144]⟩
abbrev S2048x10304 : Shape := ⟨2, ![2048, 10304]⟩
abbrev S4096x2048 : Shape := ⟨2, ![4096, 2048]⟩
abbrev S_ : Shape := ⟨0, ![]⟩
abbrev S2048x6144 : Shape := ⟨2, ![2048, 6144]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x10304, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x6144, .f32⟩
  | .hbm, ⟨6, _⟩ => ⟨S4096x6144, .f32⟩
  | .hbm, ⟨7, _⟩ => ⟨S4096x6144, .f32⟩
  | .hbm, ⟨8, _⟩ => ⟨S4096x2048, .f32⟩
  | .hbm, ⟨9, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S4096x2048 : Shape := ⟨2, ![4096, 2048]⟩
abbrev S4096x6144 : Shape := ⟨2, ![4096, 6144]⟩
abbrev S2048x6144 : Shape := ⟨2, ![2048, 6144]⟩
abbrev S4096x512 : Shape := ⟨2, ![4096, 512]⟩
abbrev S4096x1536 : Shape := ⟨2, ![4096, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S2048x6144, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S512x1536, .bf16⟩
  | .local _ .vmem, ⟨5, _⟩ => ⟨S512x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel20.lean ====
abbrev S4096x2048 : Shape := ⟨2, ![4096, 2048]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S4x1x2048x1536 : Shape := ⟨4, ![4, 1, 2048, 1536]⟩
abbrev S4096x6144 : Shape := ⟨2, ![4096, 6144]⟩
abbrev S1024x2048 : Shape := ⟨2, ![1024, 2048]⟩
abbrev S1x1x2048x1536 : Shape := ⟨4, ![1, 1, 2048, 1536]⟩
abbrev S1024x1536 : Shape := ⟨2, ![1024, 1536]⟩
abbrev S2048x1536 : Shape := ⟨2, ![2048, 1536]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S2048x6144, .bf16⟩
  | .hbm, ⟨3, _⟩ => ⟨S2048x4x1536, .bf16⟩
  | .hbm, ⟨4, _⟩ => ⟨S4x2048x1536, .bf16⟩
  | .hbm, ⟨5, _⟩ => ⟨S4x1x2048x1536, .bf16⟩
  | .hbm, ⟨6, _⟩ => ⟨S4096x6144, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x2048x1536, .bf16⟩
  | .local _ .vmem, ⟨3, _⟩ => ⟨S1x1x2048x1536, .bf16⟩
  | .local _ .vmem, ⟨4, _⟩ => ⟨S1024x1536, .bf16⟩
  | .local _ .vmem, ⟨5, _⟩ => ⟨S1024x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4096x2048 : Shape := ⟨2, ![4096, 2048]⟩
abbrev S2048x6144 : Shape := ⟨2, ![2048, 6144]⟩
abbrev S4096x6144 : Shape := ⟨2, ![4096, 6144]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x6144, .f32⟩
  | .hbm, ⟨2, _⟩ => ⟨S4096x2048, .f32⟩
  | .hbm, ⟨3, _⟩ => ⟨S4096x6144, .f32⟩
  | .hbm, ⟨4, _⟩ => ⟨S4096x6144, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4096x6144 : Shape := ⟨2, ![4096, 6144]⟩
abbrev S2048x6144 : Shape := ⟨2, ![2048, 6144]⟩
abbrev S2048x4x1536 : Shape := ⟨3, ![2048, 4, 1536]⟩
abbrev S4x2048x1536 : Shape := ⟨3, ![4, 2048, 1536]⟩
abbrev S4x1x2048x1536 : Shape := ⟨4, ![4, 1, 2048, 1536]⟩
abbrev S4096x2048 : Shape := ⟨2, ![4096, 2048]⟩
abbrev S1024x1536 : Shape := ⟨2, ![1024, 1536]⟩
abbrev S1x1x1024x1536 : Shape := ⟨4, ![1, 1, 1024, 1536]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .f32⟩
  | .hbm, ⟨2, _⟩ => ⟨S2048x6144, .bf16⟩
  | .hbm, ⟨3, _⟩ => ⟨S2048x4x1536, .bf16⟩
  | .hbm, ⟨4, _⟩ => ⟨S4x2048x1536, .bf16⟩
  | .hbm, ⟨5, _⟩ => ⟨S4x1x2048x1536, .bf16⟩
  | .hbm, ⟨6, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1x1x1024x1536, .bf16⟩
  | .local _ .vmem, ⟨3, _⟩ => ⟨S1x1x1024x1536, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x6144 : Shape := ⟨2, ![4096, 6144]⟩
abbrev S2048x6144 : Shape := ⟨2, ![2048, 6144]⟩
abbrev S_ : Shape := ⟨0, ![]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S2048x6144, .f32⟩
  | .hbm, ⟨2, _⟩ => ⟨S_, .f32⟩
  | .hbm, ⟨3, _⟩ => ⟨S4096x2048, .f32⟩
  | .hbm, ⟨4, _⟩ => ⟨S4096x6144, .f32⟩
  | .hbm, ⟨5, _⟩ => ⟨S4096x6144, .f32⟩
  | .hbm, ⟨6, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S4096x2048 : Shape := ⟨2, ![4096, 2048]⟩
abbrev S4096x6144 : Shape := ⟨2, ![4096, 6144]⟩
abbrev S4x2048x1536 : Shape := ⟨3, ![4, 2048, 1536]⟩
abbrev S4096x512 : Shape := ⟨2, ![4096, 512]⟩
abbrev S4096x1536 : Shape := ⟨2, ![4096, 1536]⟩
abbrev S1x512x1536 : Shape := ⟨3, ![1, 512, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4x2048x1536, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S1x512x1536, .bf16⟩
  | .local _ .vmem, ⟨5, _⟩ => ⟨S1x512x1536, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x1536 : Shape := ⟨2, ![2048, 1536]⟩
abbrev S1x2048x1536 : Shape := ⟨3, ![1, 2048, 1536]⟩
abbrev S4x2048x1536 : Shape := ⟨3, ![4, 2048, 1536]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S_, .f32⟩
  | .hbm, ⟨3, _⟩ => ⟨S2048x6144, .f32⟩
  | .hbm, ⟨4, _⟩ => ⟨S4096x2048, .f32⟩
  | .hbm, ⟨5, _⟩ => ⟨S4096x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x1536, .f32⟩
  | .hbm, ⟨10, _⟩ => ⟨S2048x1536, .f32⟩
  | .hbm, ⟨11, _⟩ => ⟨S2048x1536, .f32⟩
  | .hbm, ⟨12, _⟩ => ⟨S2048x1536, .f32⟩
  | .hbm, ⟨13, _⟩ => ⟨S1x2048x1536, .f32⟩
  | .hbm, ⟨14, _⟩ => ⟨S1x2048x1536, .f32⟩
  | .hbm, ⟨15, _⟩ => ⟨S1x2048x1536, .f32⟩
  | .hbm, ⟨16, _⟩ => ⟨S1x2048x1536, .f32⟩
  | .hbm, ⟨17, _⟩ => ⟨S4x2048x1536, .f32⟩
  | .hbm, ⟨18, _⟩ => ⟨S4x2048x1536, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel23.lean ====
abbrev S4096x2048 : Shape := ⟨2, ![4096, 2048]⟩
abbrev S2048x2048 : Shape := ⟨2, ![2048, 2048]⟩
abbrev S4x512x2048 : Shape := ⟨3, ![4, 512, 2048]⟩
abbrev S4x1x512x2048 : Shape := ⟨4, ![4, 1, 512, 2048]⟩
abbrev S1024x512 : Shape := ⟨2, ![1024, 512]⟩
abbrev S1x1x512x1024 : Shape := ⟨4, ![1, 1, 512, 1024]⟩
abbrev S1024x1024 : Shape := ⟨2, ![1024, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4x512x2048, .bf16⟩
  | .hbm, ⟨4, _⟩ => ⟨S4x1x512x2048, .bf16⟩
  | .hbm, ⟨5, _⟩ => ⟨S4096x2048, .f32⟩
  | .local _ .vmem, ⟨0, _⟩ => ⟨S1024x512, .bf16⟩
  | .local _ .vmem, ⟨1, _⟩ => ⟨S1024x512, .bf16⟩
  | .local _ .vmem, ⟨2, _⟩ => ⟨S1x1x512x1024, .bf16⟩
  | .local _ .vmem, ⟨3, _⟩ => ⟨S1x1x512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S4096x2048 : Shape := ⟨2, ![4096, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S4096x2048 : Shape := ⟨2, ![4096, 2048]⟩
abbrev S2048x2048 : Shape := ⟨2, ![2048, 2048]⟩
abbrev S4x512x2048 : Shape := ⟨3, ![4, 512, 2048]⟩
abbrev S4x1x512x2048 : Shape := ⟨4, ![4, 1, 512, 2048]⟩
abbrev S1024x2048 : Shape := ⟨2, ![1024, 2048]⟩
abbrev S1x1x512x2048 : Shape := ⟨4, ![1, 1, 512, 2048]⟩
abbrev S1024x512 : Shape := ⟨2, ![1024, 512]⟩
abbrev S512x2048 : Shape := ⟨2, ![512, 2048]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S2048x2048, .bf16⟩
  | .hbm, ⟨3, _⟩ => ⟨S4x512x2048, .bf16⟩
  | .hbm, ⟨4, _⟩ => ⟨S4x1x512x2048, .bf16⟩
  | .hbm, ⟨5, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S_, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel25.lean ====
abbrev S4096x2048 : Shape := ⟨2, ![4096, 2048]⟩
abbrev S2048x2048 : Shape := ⟨2, ![2048, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S4096x512 : Shape := ⟨2, ![4096, 512]⟩
abbrev S256x1024 : Shape := ⟨2, ![256, 1024]⟩
abbrev S512x512 : Shape := ⟨2, ![512, 512]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .f32⟩
  | .hbm, ⟨3, _⟩ => ⟨S4096x512, .bf16⟩
  | .hbm, ⟨4, _⟩ => ⟨S256x1024, .f32⟩
  | .local _ .vmem, ⟨0, _⟩ => ⟨S512x512, .bf16⟩
  | .local _ .vmem, ⟨1, _⟩ => ⟨S512x512, .bf16⟩
  | .local _ .vmem, ⟨2, _⟩ => ⟨S256x1024, .bf16⟩
  | .local _ .vmem, ⟨3, _⟩ => ⟨S512x512, .f32⟩
  | .local _ .vmem, ⟨4, _⟩ => ⟨S512x512, .f32⟩
  | .local _ .vmem, ⟨5, _⟩ => ⟨S512x512, .bf16⟩
  | .local _ .vmem, ⟨6, _⟩ => ⟨S512x512, .bf16⟩
  | .local _ .vmem, ⟨7, _⟩ => ⟨S256x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference26Ideal.lean ====
abbrev S4096x512 : Shape := ⟨2, ![4096, 512]⟩
abbrev S256x1024 : Shape := ⟨2, ![256, 1024]⟩
abbrev S4096x4x128 : Shape := ⟨3, ![4096, 4, 128]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x128x4096 : Shape := ⟨3, ![4, 128, 4096]⟩
abbrev S4x128x256 : Shape := ⟨3, ![4, 128, 256]⟩
abbrev S4x256x128 : Shape := ⟨3, ![4, 256, 128]⟩
abbrev S4x4096x128 : Shape := ⟨3, ![4, 4096, 128]⟩

abbrev nBuf : Space → Nat
  | .hbm => 92
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S256x1024, .bf16⟩
  | .hbm, ⟨2, _⟩ => ⟨S4096x512, .f32⟩
  | .hbm, ⟨3, _⟩ => ⟨S4096x512, .f32⟩
  | .hbm, ⟨4, _⟩ => ⟨S256x1024, .f32⟩
  | .hbm, ⟨5, _⟩ => ⟨S4096x4x128, .f32⟩
  | .hbm, ⟨6, _⟩ => ⟨S256x2x4x128, .f32⟩
  | .hbm, ⟨7, _⟩ => ⟨S256x1x4x128, .f32⟩
  | .hbm, ⟨8, _⟩ => ⟨S256x4x128, .f32⟩
  | .hbm, ⟨9, _⟩ => ⟨S256x1x4x128, .f32⟩
  | .hbm, ⟨10, _⟩ => ⟨S256x4x128, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x128x4096, .f32⟩
  | .hbm, ⟨54, _⟩ => ⟨S4096x4x128, .f32⟩
  | .hbm, ⟨55, _⟩ => ⟨S4096x512, .f32⟩
  | .hbm, ⟨56, _⟩ => ⟨S4096x4x128, .f32⟩
  | .hbm, ⟨57, _⟩ => ⟨S4x128x4096, .f32⟩
  | .hbm, ⟨58, _⟩ => ⟨S4x4096x256, .f32⟩
  | .hbm, ⟨59, _⟩ => ⟨S4x128x256, .f32⟩
  | .hbm, ⟨60, _⟩ => ⟨S256x4x128, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x128, .f32⟩
  | .hbm, ⟨79, _⟩ => ⟨S256x4x128, .f32⟩
  | .hbm, ⟨80, _⟩ => ⟨S4x4096x128, .f32⟩
  | .hbm, ⟨81, _⟩ => ⟨S4096x4x128, .f32⟩
  | .hbm, ⟨82, _⟩ => ⟨S256x1x4x128, .f32⟩
  | .hbm, ⟨83, _⟩ => ⟨S_, .f32⟩
  | .hbm, ⟨84, _⟩ => ⟨S256x2x4x128, .f32⟩
  | .hbm, ⟨85, _⟩ => ⟨S256x1x4x128, .f32⟩
  | .hbm, ⟨86, _⟩ => ⟨S_, .f32⟩
  | .hbm, ⟨87, _⟩ => ⟨S256x2x4x128, .f32⟩
  | .hbm, ⟨88, _⟩ => ⟨S256x2x4x128, .f32⟩
  | .hbm, ⟨89, _⟩ => ⟨S256x1024, .f32⟩
  | .hbm, ⟨90, _⟩ => ⟨S4096x512, .f32⟩
  | .hbm, ⟨91, _⟩ => ⟨S4096x512, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_13 : Ref sig .tc := ⟨.hbm, 83, rfl⟩
abbrev main_v66 : Ref sig .tc := ⟨.hbm, 84, rfl⟩
abbrev main_v67 : Ref sig .tc := ⟨.hbm, 85, rfl⟩
abbrev main_cst_14 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩

abbrev nD : Nat := 1
abbrev τ : Topo := Topo.v7x

variable {F : FTy → Type} [FloatOps F]
-- ==== Proof.Sgu.Spec.lean ====
/- The gradient of the spatial gating unit over the real numbers: the array every result of the kernel and of the
   reference is compared with, written with `Fin` coordinates. -/
module

public import Idealize.ShloMosaic.Lib.IdealHost
public import Idealize.ShloMosaic.Lib.Pointwise
public import Idealize.ShloMosaic.Lib.WordCmp

@[expose] public section

noncomputable section

namespace Sgu

open Idealize.ShloMosaic

/-- The pattern of the square root of two over pi, rounded to f32. -/
def gc : ℝ := 13386282 / 16777216
/-- The pattern of the epsilon of the normalisation, rounded to f32. -/
def ep : ℝ := 8796093 / 8796093022208
/-- The coefficient of the cubic term of the gate's activation. -/
def c0 : ℝ := 8943 / 200000

theorem ep_pos : 0 < ep := by unfold ep; norm_num

theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul, -EReal.coe_neg]; norm_num
theorem lit_gc : Ideal.ofBits .f32 0x3F4C422A#32 = ((gc : ℝ) : EReal) := by
  unfold gc; simp [Ideal.ofBits, Ideal.ieee, -EReal.coe_mul]; norm_num
theorem lit_ep : Ideal.ofBits .f32 0x358637BD#32 = ((ep : ℝ) : EReal) := by
  unfold ep; simp [Ideal.ofBits, Ideal.ieee, -EReal.coe_mul]; norm_num
theorem lit_4096 : Ideal.ofBits .f32 0x45800000#32 = ((4096 : ℝ) : EReal) := by
  simp [Ideal.ofBits, Ideal.ieee, -EReal.coe_mul]; norm_num
theorem lit_3 : Ideal.ofBits .f32 0x40400000#32 = ((3 : ℝ) : EReal) := by
  simp [Ideal.ofBits, Ideal.ieee, -EReal.coe_mul]; norm_num
theorem lit_8943 : Ideal.ofBits .f32 0x460BBC00#32 = ((8943 : ℝ) : EReal) := by
  simp [Ideal.ofBits, Ideal.ieee, -EReal.coe_mul]; norm_num
theorem lit_200000 : Ideal.ofBits .f32 0x48435000#32 = ((200000 : ℝ) : EReal) := by
  simp [Ideal.ofBits, Ideal.ieee, -EReal.coe_mul]; norm_num
theorem lit_1 : (1 : EReal) = ((1 : ℝ) : EReal) := EReal.coe_one.symm
theorem lit_0 : (0 : EReal) = ((0 : ℝ) : EReal) := EReal.coe_zero.symm

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- Division of reals, read in the extended reals. -/
theorem coe_div (x y : ℝ) (h : y ≠ 0) : Ideal.div (x : EReal) (y : EReal) = ((x / y : ℝ) : EReal) := by
  rw [Ideal.div_coe h, ← EReal.coe_mul, mul_one_div]

/-- The reciprocal square root at a positive real. -/
theorem coe_rsqrt (x : ℝ) (h : 0 < x) : Ideal.rsqrt (x : EReal) = (((Real.sqrt x)⁻¹ : ℝ) : EReal) := by
  rw [Ideal.rsqrt_coe, if_neg (not_lt.mpr h.le), if_neg h.ne']

/-- A choice between two reals, read in the extended reals. -/
theorem coe_ite (c : Prop) [Decidable c] (x y : ℝ) : (if c then (x : EReal) else (y : EReal)) = ((if c then x else y : ℝ) : EReal) := by
  split <;> rfl

/-- An array of finite extended reals is the array of its real values. -/
theorem eq_coe {x : EReal} (h : max x (-x) < ⊤) : x = ((x.toReal : ℝ) : EReal) := by
  refine (EReal.coe_toReal ?_ ?_).symm
  · rintro rfl; simp at h
  · rintro rfl; simp at h

/-- An entry of an array whose entries are all below infinity in absolute value is a real number. -/
theorem finite_at {S S0 : Shape} (x : FVec Ideal S .f32) (d : Fin S0.rank → Fin S.rank) (hb : S0.BroadcastsInDim S d)
    (h : cmpf .olt (Host.absf x) (broadcastInDim S d hb (constant S0 .f32 0x7F800000#32)) = fun _ => 1#1) (i : S.Idx) :
    x i = (((x i).toReal : ℝ) : EReal) := by
  refine eq_coe ?_
  have e := congrFun h i
  have hi : Ideal.ofBits .f32 0x7F800000#32 = (⊤ : EReal) := by simp [Ideal.ofBits, Ideal.ieee]
  change BitVec.ofBool (decide (max (x i) (-(x i)) < Ideal.ofBits .f32 0x7F800000#32)) = 1#1 at e
  rw [hi] at e
  by_contra hn
  rw [decide_eq_false hn] at e
  exact absurd e (by decide)

/-! ## Coordinates -/

/-- Row `t` of chunk `c`. -/
def row (c : Fin 32) (t : Fin 128) : Fin 4096 := ⟨c.val * 128 + t.val, by omega⟩
/-- Column `d` of group `g`. -/
def col (g : Fin 16) (d : Fin 256) : Fin 4096 := ⟨g.val * 256 + d.val, by omega⟩
/-- A column of the first half. -/
def lo (j : Fin 4096) : Fin 8192 := ⟨j.val, by omega⟩
/-- A column of the second half. -/
def hi (j : Fin 4096) : Fin 8192 := ⟨4096 + j.val, by omega⟩
/-- The chunk of a row. -/
def ch (i : Fin 4096) : Fin 32 := ⟨i.val / 128, by omega⟩
/-- The place of a row in its chunk. -/
def ti (i : Fin 4096) : Fin 128 := ⟨i.val % 128, by omega⟩
/-- The group of a column. -/
def gr (j : Fin 4096) : Fin 16 := ⟨j.val / 256, by omega⟩
/-- The place of a column in its group. -/
def di (j : Fin 4096) : Fin 256 := ⟨j.val % 256, by omega⟩

theorem ch_row (c : Fin 32) (t : Fin 128) : ch (row c t) = c := Fin.ext (by simp only [ch, row]; omega)
theorem ti_row (c : Fin 32) (t : Fin 128) : ti (row c t) = t := Fin.ext (by simp only [ti, row]; omega)
theorem gr_col (g : Fin 16) (d : Fin 256) : gr (col g d) = g := Fin.ext (by simp only [gr, col]; omega)
theorem di_col (g : Fin 16) (d : Fin 256) : di (col g d) = d := Fin.ext (by simp only [di, col]; omega)
theorem row_ch_ti (i : Fin 4096) : row (ch i) (ti i) = i := Fin.ext (by simp only [ch, ti, row]; omega)
theorem col_gr_di (j : Fin 4096) : col (gr j) (di j) = j := Fin.ext (by simp only [gr, di, col]; omega)

/-- A sum over all rows, chunk by chunk. -/
theorem sum_row (f : Fin 4096 → ℝ) : ∑ i, f i = ∑ c, ∑ t, f (row c t) := Fin.sum_univ_tiles 32 128 rfl f
/-- A sum over all columns, group by group. -/
theorem sum_col (f : Fin 4096 → ℝ) : ∑ j, f j = ∑ g, ∑ d, f (col g d) := Fin.sum_univ_tiles 16 256 rfl f

/-! ## The activation -/

/-- The hyperbolic tangent inside the activation. -/
def th (x : ℝ) : ℝ := Real.tanh (gc * (x + c0 * (x * x * x)))
/-- The activation. -/
def gl (x : ℝ) : ℝ := x * (1 / 2 * (1 + th x))
/-- Its derivative. -/
def dgl (x : ℝ) : ℝ := 1 / 2 * (1 + th x) + 1 / 2 * x * (1 - th x * th x) * gc * (1 + 3 * c0 * x * x)

/-! ## The gradient -/

/-- The arguments as real arrays. -/
structure Args where
  p : Fin 4096 → Fin 8192 → ℝ
  dg : Fin 4096 → Fin 4096 → ℝ
  vg : Fin 4096 → ℝ
  vb : Fin 4096 → ℝ
  ws : Fin 16 → Fin 128 → Fin 128 → ℝ
  bs : Fin 16 → Fin 128 → ℝ

variable (a : Args)

/-- The gate half of the activated input. -/
def u (i j : Fin 4096) : ℝ := gl (a.p i (lo j))
/-- The value half of the activated input. -/
def v (i j : Fin 4096) : ℝ := gl (a.p i (hi j))
/-- The mean of a row of the value half. -/
def mu (i : Fin 4096) : ℝ := (∑ j, v a i j) / 4096
/-- The value half, centred. -/
def xc (i j : Fin 4096) : ℝ := v a i j - mu a i
/-- The variance of a row. -/
def var (i : Fin 4096) : ℝ := (∑ j, xc a i j * xc a i j) / 4096
/-- The reciprocal deviation of a row. -/
def rr (i : Fin 4096) : ℝ := (Real.sqrt (var a i + ep))⁻¹
/-- The normalised value half. -/
def xh (i j : Fin 4096) : ℝ := xc a i j * rr a i
/-- The normalised value half after its scale and shift. -/
def vn (i j : Fin 4096) : ℝ := xh a i j * a.vg j + a.vb j
/-- The causal part of the spatial weights. -/
def w (g : Fin 16) (t s : Fin 128) : ℝ := if s ≤ t then a.ws g t s else 0
/-- The spatially mixed values. -/
def mix (i j : Fin 4096) : ℝ := (∑ s, w a (gr j) (ti i) s * vn a (row (ch i) s) j) + a.bs (gr j) (ti i)
/-- The cotangent of the mixed values. -/
def dmix (i j : Fin 4096) : ℝ := a.dg i j * u a i j
/-- The cotangent of the values before the mixing. -/
def dvn (i j : Fin 4096) : ℝ := ∑ t, w a (gr j) t (ti i) * dmix a (row (ch i) t) j
/-- The gradient of the scale. -/
def dvg (j : Fin 4096) : ℝ := ∑ i, dvn a i j * xh a i j
/-- The gradient of the shift. -/
def dvb (j : Fin 4096) : ℝ := ∑ i, dvn a i j
/-- The gradient of the spatial weights. -/
def dws (g : Fin 16) (t s : Fin 128) : ℝ :=
  if s ≤ t then ∑ c : Fin 32, ∑ d : Fin 256, dmix a (row c t) (col g d) * vn a (row c s) (col g d) else 0
/-- The gradient of the spatial bias. -/
def dbs (t : Fin 128) (g : Fin 16) : ℝ := ∑ c : Fin 32, ∑ d : Fin 256, dmix a (row c t) (col g d)
/-- The cotangent of the normalised value half. -/
def dxh (i j : Fin 4096) : ℝ := dvn a i j * a.vg j
/-- The cotangent of the value half. -/
def dv (i j : Fin 4096) : ℝ :=
  rr a i * (dxh a i j - (∑ k, dxh a i k) / 4096 - xh a i j * ((∑ k, dxh a i k * xh a i k) / 4096))
/-- The gradient of the input, first half. -/
def dpu (i j : Fin 4096) : ℝ := a.dg i j * mix a i j * dgl (a.p i (lo j))
/-- The gradient of the input, second half. -/
def dpv (i j : Fin 4096) : ℝ := dv a i j * dgl (a.p i (hi j))

theorem var_nonneg (i : Fin 4096) : 0 ≤ var a i :=
  div_nonneg (Finset.sum_nonneg fun j _ => mul_self_nonneg _) (by norm_num)
theorem var_pos (i : Fin 4096) : 0 < var a i + ep := add_pos_of_nonneg_of_pos (var_nonneg a i) ep_pos

/-- The reciprocal deviation squared times the variance is one. -/
theorem rr_sq (i : Fin 4096) : rr a i * rr a i * (var a i + ep) = 1 := by
  have h := var_pos a i
  have hs : Real.sqrt (var a i + ep) * Real.sqrt (var a i + ep) = var a i + ep := Real.mul_self_sqrt h.le
  have hs0 : Real.sqrt (var a i + ep) ≠ 0 := (Real.sqrt_pos.mpr h).ne'
  unfold rr
  field_simp
  nlinarith [hs]

/-- A centred row sums to zero. -/
theorem sum_xc (i : Fin 4096) : ∑ j, xc a i j = 0 := by
  simp only [xc, Finset.sum_sub_distrib, Finset.sum_const, Finset.card_univ, Fintype.card_fin, nsmul_eq_mul, mu]
  push_cast; ring

end Sgu

end
-- ==== Proof.Sgu.Pay.lean ====
module

public import proofs.«01_k».proof.Proof.Sgu.Spec
public import proofs.«01_k».proof.Proof.Gen.KernelIdeal.Value
public import Idealize.ShloMosaic.Lib.Pipeline.ValueKit

/-! The first values of one grid point, as real functions of the arguments: the activated halves, the
normalised rows and the mask. -/

@[expose] public section

set_option maxRecDepth 16384

noncomputable section

namespace Sgu.Ker

open Cert.KernelIdeal Cert.KernelIdeal.Gen Idealize.ShloMosaic Idealize.ShloMosaic.TcCoe

/-- The coefficient of the cube reads as the rational it is named. -/
theorem cube_at : (Named.named (F := Ideal) (φ := .f32) κ "cube" 0x3D372713#32) = ((8943 / 200000 : ℝ) : EReal) :=
  IdealRules.named_const.ideal_named_scalar _ _ _ _ rfl
/-- Three times the coefficient of the cube. -/
theorem cube3_at : (Named.named (F := Ideal) (φ := .f32) κ "cube3" 0x3E095D4F#32) = ((26829 / 200000 : ℝ) : EReal) :=
  IdealRules.named_const.ideal_named_scalar _ _ _ _ rfl

/-- The causal mask of one block of positions. -/
theorem mask_at (t s : Fin 128) (x y : EReal) :
    Scalar.select (IntOp.cmpi .sle (BitVec.ofNat 32 s.val) (BitVec.ofNat 32 t.val)) x y = if s ≤ t then x else y := by
  have h : IntOp.cmpi .sle (BitVec.ofNat 32 s.val) (BitVec.ofNat 32 t.val) = if s ≤ t then 1#1 else 0#1 := by
    revert s t; decide +kernel
  rw [h]; split <;> rfl

variable (a : Args) (c : Fin 32)

/-- The activated gate half of a block of rows. -/
def U : FVec Ideal S128x4096 .f32 := fun i => ((u a (row c (i 0)) (i 1) : ℝ) : EReal)
/-- The centred value half. -/
def XC : FVec Ideal S128x4096 .f32 := fun i => ((xc a (row c (i 0)) (i 1) : ℝ) : EReal)
/-- The sums of squares of the centred rows. -/
def SQ : FVec Ideal S128x1 .f32 := fun i => ((∑ j, xc a (row c (i 0)) j * xc a (row c (i 0)) j : ℝ) : EReal)
/-- The reciprocal deviations. -/
def RR : FVec Ideal S128x1 .f32 := fun i => ((rr a (row c (i 0)) : ℝ) : EReal)
/-- The normalised value half. -/
def XH : FVec Ideal S128x4096 .f32 := fun i => ((xh a (row c (i 0)) (i 1) : ℝ) : EReal)
/-- The normalised value half after scale and shift. -/
def VN : FVec Ideal S128x4096 .f32 := fun i => ((vn a (row c (i 0)) (i 1) : ℝ) : EReal)

theorem U_at (x : Fin 128) (j : Fin 4096) : U a c (ix2 x j) = ((u a (row c x) j : ℝ) : EReal) := rfl
theorem XC_at (x : Fin 128) (j : Fin 4096) : XC a c (ix2 x j) = ((xc a (row c x) j : ℝ) : EReal) := rfl
theorem SQ_at (x : Fin 128) (z : Fin 1) : SQ a c (ix2 x z) = ((∑ j, xc a (row c x) j * xc a (row c x) j : ℝ) : EReal) := rfl
theorem RR_at (x : Fin 128) (z : Fin 1) : RR a c (ix2 x z) = ((rr a (row c x) : ℝ) : EReal) := rfl
theorem XH_at (x : Fin 128) (j : Fin 4096) : XH a c (ix2 x j) = ((xh a (row c x) j : ℝ) : EReal) := rfl
theorem VN_at (x : Fin 128) (j : Fin 4096) : VN a c (ix2 x j) = ((vn a (row c x) j : ℝ) : EReal) := rfl

/-- The activation in the order of the kernel. -/
theorem gelu_at (x : ℝ) :
    Ideal.ofBits .f32 0x3F000000#32 * (x : EReal) * (1 + Ideal.tanh (Ideal.ofBits .f32 0x3F4C422A#32 *
      ((x : EReal) + Named.named (F := Ideal) (φ := .f32) κ "cube" 0x3D372713#32 * x * x * x))) = ((gl x : ℝ) : EReal) := by
  rw [cube_at, lit_half, lit_gc, lit_1]
  simp only [← EReal.coe_mul, ← EReal.coe_add, Ideal.tanh_coe]
  congr 1
  have h : gc * (x + 8943 / 200000 * x * x * x) = gc * (x + c0 * (x * x * x)) := by rw [c0]; ring
  rw [h, gl, th]; ring

/-- The derivative of the activation in the order of the kernel. -/
theorem dgelu_at (x : ℝ) :
    Ideal.ofBits .f32 0x3F000000#32 * (1 + Ideal.tanh (Ideal.ofBits .f32 0x3F4C422A#32 *
      ((x : EReal) + Named.named (F := Ideal) (φ := .f32) κ "cube" 0x3D372713#32 * x * x * x))) +
      Ideal.ofBits .f32 0x3F000000#32 * (x : EReal) * (1 - Ideal.tanh (Ideal.ofBits .f32 0x3F4C422A#32 *
      ((x : EReal) + Named.named (F := Ideal) (φ := .f32) κ "cube" 0x3D372713#32 * x * x * x)) * Ideal.tanh (Ideal.ofBits .f32 0x3F4C422A#32 *
      ((x : EReal) + Named.named (F := Ideal) (φ := .f32) κ "cube" 0x3D372713#32 * x * x * x))) * Ideal.ofBits .f32 0x3F4C422A#32 *
      (1 + Named.named (F := Ideal) (φ := .f32) κ "cube3" 0x3E095D4F#32 * x * x) = ((dgl x : ℝ) : EReal) := by
  rw [cube_at, cube3_at, lit_half, lit_gc, lit_1]
  simp only [← EReal.coe_mul, ← EReal.coe_add, ← EReal.coe_sub, Ideal.tanh_coe]
  congr 1
  have h : gc * (x + 8943 / 200000 * x * x * x) = gc * (x + c0 * (x * x * x)) := by rw [c0]; ring
  rw [h, dgl, th, c0]; ring

theorem pay7_eq (v3 : FVec Ideal S128x4096 .f32) (h : ∀ x j, v3 (ix2 x j) = ((a.p (row c x) (lo j) : ℝ) : EReal)) :
    k0_pay7 v3 = U a c := by
  funext i
  idx_vars i
  rw [U_at]
  pointwise [k0_pay7, h]
  exact gelu_at _

theorem pay8_eq (v4 : FVec Ideal S128x4096 .f32) (h : ∀ x j, v4 (ix2 x j) = ((a.p (row c x) (hi j) : ℝ) : EReal)) :
    k0_pay8 v4 = XC a c := by
  funext i
  idx_vars i
  rw [XC_at]
  pointwise [k0_pay8, h]
  simp only [gelu_at]
  rw [← coe_sum, lit_4096, coe_div _ _ (by norm_num), ← EReal.coe_sub]
  rfl

theorem pay9_eq (v4 : FVec Ideal S128x4096 .f32) (h : ∀ x j, v4 (ix2 x j) = ((a.p (row c x) (hi j) : ℝ) : EReal)) :
    k0_pay9 v4 = SQ a c := by
  funext i
  idx_vars i
  rw [SQ_at]
  pointwise [k0_pay9, pay8_eq a c v4 h, XC_at]
  simp only [coe_sum, EReal.coe_mul]

theorem pay10_eq (cst : Ideal .f32) (hc : cst = ((4096 : ℝ) : EReal)) : k0_pay10 (SQ a c) cst = RR a c := by
  funext i
  idx_vars i
  rw [RR_at]
  pointwise [k0_pay10, SQ_at, hc]
  rw [lit_ep, coe_div _ _ (by norm_num), ← EReal.coe_add]
  exact coe_rsqrt _ (var_pos a (row c i0))

theorem pay11_eq (cst : Ideal .f32) (hc : cst = ((4096 : ℝ) : EReal)) : k0_pay11 (XC a c) (SQ a c) cst = XH a c := by
  funext i
  idx_vars i
  rw [XH_at]
  pointwise [k0_pay11, pay10_eq a c cst hc, RR_at, XC_at]
  rw [← EReal.coe_mul]
  rfl

theorem pay12_eq (cst : Ideal .f32) (hc : cst = ((4096 : ℝ) : EReal)) (v47 v50 : FVec Ideal S1x4096 .f32)
    (h : ∀ z j, v47 (ix2 z j) = ((a.vg j : ℝ) : EReal)) (h' : ∀ z j, v50 (ix2 z j) = ((a.vb j : ℝ) : EReal)) :
    k0_pay12 (XC a c) (SQ a c) cst v47 v50 = VN a c := by
  funext i
  idx_vars i
  rw [VN_at]
  pointwise [k0_pay12, pay11_eq a c cst hc, XH_at, h, h']
  rw [← EReal.coe_mul, ← EReal.coe_add]
  rfl

end Sgu.Ker
end
-- ==== Proof.Sgu.Canon.lean ====
/- Reading an array that several stores wrote. -/
module

public import Idealize.ShloMosaic.Lib.Pipeline.ReadBack

@[expose] public section

noncomputable section

namespace Sgu

open Idealize.ShloMosaic Idealize.ShloMosaic.TcCoe Idealize.SL.Sem

/-- Earlier stores do not matter where the later ones cover. -/
theorem canon_append_left {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨p, hp, _⟩ := h; exact absurd hp List.not_mem_nil
  | ⟨r, v⟩ :: L, h => by
    rw [List.cons_append]
    by_cases hm : y ∈ r.set
    · obtain ⟨x, rfl⟩ := r.exists_idx_of_mem hm
      exact (View.canon_cons_emb r v (L ++ L') x).trans (View.canon_cons_emb r v L x).symm
    · rw [View.canon_cons_of_not_mem _ _ hm, View.canon_cons_of_not_mem _ _ hm]
      refine canon_append_left L' y L ?_
      obtain ⟨p, hp, hy⟩ := h
      rcases List.mem_cons.mp hp with rfl | hp
      · exact absurd hy hm
      · exact ⟨p, hp, hy⟩

end Sgu
end
-- ==== Proof.Sgu.Step.lean ====
module

public import proofs.«01_k».proof.Proof.Sgu.Pay
public import proofs.«01_k».proof.Proof.Sgu.Canon
public import Idealize.ShloMosaic.Lib.Pipeline.ReadBack

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The blocks of one grid point are the rows of the arguments. -/
structure Blk (c : Dev nD) (t : Fin cfg0.N) (a : Args) (k : Fin 32) : Prop where
  b0 : ∀ (x : Fin 128) (j : Fin 8192), (iblk m c 0 t : FVec Ideal S128x8192 .f32) (ix2 x j) = ((a.p (row k x) j : ℝ) : EReal)
  b1 : ∀ (x : Fin 128) (j : Fin 4096), (iblk m c 1 t : FVec Ideal S128x4096 .f32) (ix2 x j) = ((a.dg (row k x) j : ℝ) : EReal)
  b2 : ∀ (z : Fin 1) (j : Fin 4096), (iblk m c 2 t : FVec Ideal S1x4096 .f32) (ix2 z j) = ((a.vg j : ℝ) : EReal)
  b3 : ∀ (z : Fin 1) (j : Fin 4096), (iblk m c 3 t : FVec Ideal S1x4096 .f32) (ix2 z j) = ((a.vb j : ℝ) : EReal)
  b4 : ∀ (g : Fin 16) (x s : Fin 128), (iblk m c 4 t : FVec Ideal S16x128x128 .f32) (ix3 g x s) = ((a.ws g x s : ℝ) : EReal)
  b5 : ∀ (x : Fin 128) (j : Fin 4096), (iblk m c 5 t : FVec Ideal S128x4096 .f32) (ix2 x j) = ((a.bs (gr j) x : ℝ) : EReal)

/-- The mask's choice at one place. -/
theorem mask13 (t s : Fin 128) (x y : EReal) : Scalar.select (k0_pay13 (ix2 t s)) x y = if s ≤ t then x else y := by
  pointwise [k0_pay13]
  exact mask_at t s x y

variable (a : Args) (k : Fin 32)

/-- The cotangent of the values before the mixing, on a block of rows. -/
def DVN : FVec Ideal S128x4096 .f32 := fun i => ((dvn a (row k (i 0)) (i 1) : ℝ) : EReal)
theorem DVN_at (x : Fin 128) (j : Fin 4096) : DVN a k (ix2 x j) = ((dvn a (row k x) j : ℝ) : EReal) := rfl

/-- The kernel's product for the first half of the input's gradient. -/
theorem dpu_at (x : Fin 128) (g : Fin 16) (j : Fin 4096) (hg : gr j = g) :
    (a.dg (row k x) j : EReal) * ((∑ s : Fin 128, if s ≤ x then (a.ws g x s : EReal) * (vn a (row k s) j : EReal) else 0) + (a.bs (gr j) x : EReal)) *
      (dgl (a.p (row k x) ⟨j.val, by omega⟩) : EReal) = ((dpu a (row k x) j : ℝ) : EReal) := by
  subst hg
  rw [dpu, mix, ch_row, ti_row]
  simp only [EReal.coe_mul, EReal.coe_add, coe_sum, w, ← coe_ite, EReal.coe_zero, ite_mul, zero_mul]
  rfl

/-- The input's gradient at a column of the first half. -/
theorem dp_lo (x y : Fin 128) (h0 : x.val = y.val) (j : Fin 8192) (j' : Fin 4096) (h1 : j.val = j'.val) :
    ((dpu a (row k y) j' : ℝ) : EReal) =
      if h : j.val < 4096 then ((dpu a (row k x) ⟨j.val, h⟩ : ℝ) : EReal) else ((dpv a (row k x) ⟨j.val - 4096, by omega⟩ : ℝ) : EReal) := by
  have h : j.val < 4096 := by omega
  obtain rfl : x = y := Fin.ext h0
  obtain rfl : (⟨j.val, h⟩ : Fin 4096) = j' := Fin.ext h1
  rw [dif_pos h]

/-- The input's gradient at a column of the second half. -/
theorem dp_hi (x y : Fin 128) (h0 : x.val = y.val) (j : Fin 8192) (j' : Fin 4096) (h1 : j.val = 4096 + j'.val) :
    ((dpv a (row k y) j' : ℝ) : EReal) =
      if h : j.val < 4096 then ((dpu a (row k x) ⟨j.val, h⟩ : ℝ) : EReal) else ((dpv a (row k x) ⟨j.val - 4096, by omega⟩ : ℝ) : EReal) := by
  have h : ¬j.val < 4096 := by omega
  obtain rfl : x = y := Fin.ext h0
  rw [dif_neg h]
  exact congrArg (fun i => ((dpv a (row k x) i : ℝ) : EReal)) (Fin.ext (by simp only; omega))

/-- The kernel's product for the cotangent of the values before the mixing. -/
theorem dvn_at (x : Fin 128) (g : Fin 16) (j : Fin 4096) (hg : gr j = g) :
    (∑ t : Fin 128, if x ≤ t then (a.ws g t x : EReal) * ((a.dg (row k t) j : EReal) * (u a (row k t) j : EReal)) else 0) = ((dvn a (row k x) j : ℝ) : EReal) := by
  subst hg
  rw [dvn, ch_row, ti_row]
  simp only [dmix, EReal.coe_mul, coe_sum, w, ← coe_ite, EReal.coe_zero, ite_mul, zero_mul]

/-- The kernel's value for the second half of the input's gradient. -/
theorem dpv_at (i j : Fin 4096) :
    (rr a i : EReal) * ((dvn a i j : EReal) * (a.vg j : EReal) - Ideal.div (∑ x, (dvn a i x : EReal) * (a.vg x : EReal)) (Ideal.ofBits .f32 0x45800000#32) -
      (xh a i j : EReal) * Ideal.div (∑ x, (dvn a i x : EReal) * (a.vg x : EReal) * (xh a i x : EReal)) (Ideal.ofBits .f32 0x45800000#32)) *
      (dgl (a.p i (hi j)) : EReal) = ((dpv a i j : ℝ) : EReal) := by
  simp only [lit_4096, ← EReal.coe_mul, ← coe_sum, coe_div _ _ (show (4096 : ℝ) ≠ 0 by norm_num), ← EReal.coe_sub]
  rfl

/-- The cotangent of the values before the mixing, at a place the stores name. -/
theorem dvn_to (x y : Fin 128) (h0 : x.val = y.val) (j j' : Fin 4096) (h1 : j.val = j'.val) :
    ((dvn a (row k y) j' : ℝ) : EReal) = ((dvn a (row k x) j : ℝ) : EReal) := by
  obtain rfl : x = y := Fin.ext h0
  obtain rfl : j = j' := Fin.ext h1
  rfl

/-- One grid point's part of the gradient of the spatial weights. -/
def dwsC (g : Fin 16) (t s : Fin 128) : ℝ := if s ≤ t then ∑ d : Fin 256, dmix a (row k t) (col g d) * vn a (row k s) (col g d) else 0

/-- The kernel's product for the gradient of the spatial weights. -/
theorem dws_at (g : Fin 16) (t s : Fin 128) (f : Fin 256 → Fin 4096) (hf : ∀ d, f d = col g d) :
    (if s ≤ t then ∑ d : Fin 256, (a.dg (row k t) (f d) : EReal) * (u a (row k t) (f d) : EReal) * (vn a (row k s) (f d) : EReal) else 0) = ((dwsC a k g t s : ℝ) : EReal) := by
  simp only [hf, dwsC, dmix, EReal.coe_mul, coe_sum, ← coe_ite, EReal.coe_zero]

/-- The cotangent of the mixed values as the kernel forms it. -/
theorem dmix_to (x : Fin 128) (j j' : Fin 4096) (h : j.val = j'.val) :
    (a.dg (row k x) j' : EReal) * (u a (row k x) j' : EReal) = ((dmix a (row k x) j : ℝ) : EReal) := by
  obtain rfl : j = j' := Fin.ext h
  rw [dmix, EReal.coe_mul]

end Sgu.Ker
end
-- ==== Proof.Sgu.Blocks.lean ====
/- The blocks of every grid point are rows of the arguments, and the fold over the grid points is a sum. -/
module

public import proofs.«01_k».proof.Proof.Sgu.Step

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

variable (m : (ℓ : Loc nD τ sig) → Buf (Elt Ideal) ℓ)

/-- The index maps of the six inputs. -/
theorem idx : ∀ t : Fin cfg0.N, win0_0.index t = ![t.val, 0] ∧ win0_1.index t = ![t.val, 0] ∧ win0_2.index t = ![0, 0] ∧ win0_3.index t = ![0, 0]
    ∧ win0_4.index t = ![0, 0, 0] ∧ win0_5.index t = ![0, 0] := (by decide +kernel : ∀ t : Fin grid0.N, _)

/-- The launch memory holds the arguments. -/
structure Mem (c : Dev nD) (a : Args) : Prop where
  m0 : ∀ (i : Fin 4096) (j : Fin 8192), (m ((c : Thread nD τ).loc main_arg0) : FVec Ideal S4096x8192 .f32) (ix2 i j) = ((a.p i j : ℝ) : EReal)
  m1 : ∀ (i j : Fin 4096), (m ((c : Thread nD τ).loc main_arg1) : FVec Ideal S4096x4096 .f32) (ix2 i j) = ((a.dg i j : ℝ) : EReal)
  m2 : ∀ (z : Fin 1) (j : Fin 4096), (m ((c : Thread nD τ).loc main_arg2) : FVec Ideal S1x4096 .f32) (ix2 z j) = ((a.vg j : ℝ) : EReal)
  m3 : ∀ (z : Fin 1) (j : Fin 4096), (m ((c : Thread nD τ).loc main_arg3) : FVec Ideal S1x4096 .f32) (ix2 z j) = ((a.vb j : ℝ) : EReal)
  m4 : ∀ (g : Fin 16) (x s : Fin 128), (m ((c : Thread nD τ).loc main_arg4) : FVec Ideal S16x128x128 .f32) (ix3 g x s) = ((a.ws g x s : ℝ) : EReal)
  m5 : ∀ (g : Fin 16) (x : Fin 128), (m ((c : Thread nD τ).loc main_arg5) : FVec Ideal S16x128 .f32) (ix2 g x) = ((a.bs g x : ℝ) : EReal)

/-- A grid point's chunk of rows. -/
def pt (n : ℕ) : Fin 32 := ⟨n % 32, Nat.mod_lt _ (by decide)⟩

/-- The blocks of a grid point. -/
theorem blk (c : Dev nD) (a : Args) (M : Mem m c a) (t : Fin cfg0.N) : Blk m c t a (pt t.val) := by
  have ht : t.val < 32 := lt_of_lt_of_eq t.isLt N_0
  constructor
  · intro x j
    refine Eq.trans ?_ (M.m0 _ _)
    blk_ext [iblk, V, idx t]
    simp only [row, pt]; omega
  · intro x j
    refine Eq.trans ?_ (M.m1 _ _)
    blk_ext [iblk, V, idx t]
    simp only [row, pt]; omega
  · intro x j
    refine Eq.trans ?_ (M.m2 x j)
    blk_ext [iblk, V, idx t]
  · intro x j
    refine Eq.trans ?_ (M.m3 x j)
    blk_ext [iblk, V, idx t]
  · intro g x s
    refine Eq.trans ?_ (M.m4 g x s)
    blk_ext [iblk, V, idx t]
  · intro x j
    refine Eq.trans ?_ (M.m5 (gr j) x)
    blk_point [iblk, V, idx t]
    rfl

/-- What the grid points carry. -/
abbrev St : Type := Vec Ideal S128x8192 .bf16 × Vec Ideal S16x128x128 .f32 × Vec Ideal S1x4096 .f32 × Vec Ideal S1x4096 .f32 × Vec Ideal S128x128 .f32 × Vec Ideal S128x4096 .f32

/-- The state after each grid point. -/
abbrev at_ (c : Dev nD) (n : ℕ) (h : 0 + n < cfg0.N) : St :=
  Pipeline.accAt (fun n h => stAt0 m c n h junk0) (stAt0 m c) 0 n h

/-- Every state is one step from some state. -/
theorem at_step (c : Dev nD) : ∀ (n : ℕ) (h : 0 + n < cfg0.N), ∃ acc, at_ m c n h = stAt0 m c (0 + n) h acc
  | 0, h => ⟨_, rfl⟩
  | n + 1, h => ⟨_, rfl⟩

/-- A number that starts from zero and to which every grid point adds is the sum of what they add. -/
theorem fold (c : Dev nD) (f : St → EReal) (T : Fin 32 → ℝ)
    (hs : ∀ (t : Fin cfg0.N) (acc : St), f (stAt0 m c t.val t.isLt acc) = (if t.val % 32 = 0 then (0 : EReal) else f acc) + ((T (pt t.val) : ℝ) : EReal)) :
    ∀ (n : ℕ) (h : 0 + n < cfg0.N), f (at_ m c n h) = ((∑ k ∈ Finset.range (n + 1), T (pt k) : ℝ) : EReal)
  | 0, h => by
    refine (hs ⟨0, h⟩ junk0).trans ?_
    rw [if_pos (show (⟨0, h⟩ : Fin cfg0.N).val % 32 = 0 from rfl), zero_add, Finset.sum_range_one]
  | n + 1, h => by
    have hn : 0 + (n + 1) < 32 := lt_of_lt_of_eq h N_0
    refine (hs ⟨0 + (n + 1), h⟩ (at_ m c n (Nat.lt_of_succ_lt h))).trans ?_
    rw [if_neg (show ¬ (0 + (n + 1)) % 32 = 0 by omega), fold c f T hs n, Finset.sum_range_succ _ (n + 1), EReal.coe_add]
    simp only [Nat.zero_add]

/-- All grid points. -/
theorem sum_pt (T : Fin 32 → ℝ) : ∑ k ∈ Finset.range (31 + 1), T (pt k) = ∑ k, T k := by
  rw [Finset.sum_range]
  refine Finset.sum_congr rfl fun k _ => congrArg T (Fin.ext ?_)
  simp only [pt]; omega

end Sgu.Ker
end
-- ==== Proof.Sgu.St689.lean ====
module

public import proofs.«01_k».proof.Proof.Sgu.Step
public import Idealize.ShloMosaic.Lib.Pipeline.ReadBack

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

variable (a : Args) (k : Fin 32)
variable (m : (ℓ : Loc nD τ sig) → Buf (Elt Ideal) ℓ)

set_option maxHeartbeats 4000000 in
/-- What one grid point leaves for the input's gradient and for the gradients of the scale and the shift. -/
theorem st689 (c : Dev nD) (t : Fin cfg0.N) (acc) (b : Blk m c t a k) :
    (∀ (x : Fin 128) (j : Fin 8192), (stAt0 m c t.val t.isLt acc).1 (ix2 x j) =
      if h : j.val < 4096 then ((dpu a (row k x) ⟨j.val, h⟩ : ℝ) : EReal) else ((dpv a (row k x) ⟨j.val - 4096, by omega⟩ : ℝ) : EReal)) ∧
    (∀ (z : Fin 1) (j : Fin 4096), (stAt0 m c t.val t.isLt acc).2.2.1 (ix2 z j) =
      (if t.val % 32 = 0 then (0 : EReal) else (acc.2.2.1 : FVec Ideal S1x4096 .f32) (ix2 z j)) + ((∑ x, dvn a (row k x) j * xh a (row k x) j : ℝ) : EReal)) ∧
    (∀ (z : Fin 1) (j : Fin 4096), (stAt0 m c t.val t.isLt acc).2.2.2.1 (ix2 z j) =
      (if t.val % 32 = 0 then (0 : EReal) else (acc.2.2.2.1 : FVec Ideal S1x4096 .f32) (ix2 z j)) + ((∑ x, dvn a (row k x) j : ℝ) : EReal)) := by
  by_cases q0 : t.val % 32 = 0
  case' pos =>
    rw [stAt0_A m c t acc q0 (by omega)]
    simp only [if_pos q0]
    refine ⟨fun x j => ?_, fun z j => ?_, fun z j => ?_⟩
    all_goals (frame_open; simp (disch := decide) only [↓ View.readCov_skip, ↓ View.readCov_cons_toLoadRect, ↓ View.readCov_fill]; frame_out)
    skip
  case' neg =>
    simp only [if_neg q0]
    by_cases q1 : t.val % 32 = 31
    case' pos =>
      rw [stAt0_C m c t acc q0 q1]
      refine ⟨fun x j => ?_, fun z j => ?_, fun z j => ?_⟩
      all_goals frame_out
      skip
    case' neg =>
      rw [stAt0_B m c t acc q0 q1]
      refine ⟨fun x j => ?_, fun z j => ?_, fun z j => ?_⟩
      all_goals frame_out
      skip
  all_goals try rw [pay8_eq a k _ (by intro x j; pointwise; exact b.b0 _ _), pay9_eq a k _ (by intro x j; pointwise; exact b.b0 _ _)]
  all_goals try rw [pay11_eq a k _ (by exact lit_4096)]
  all_goals have e12 := pay12_eq a k _ lit_4096 _ _ b.b2 b.b3
  all_goals obtain ⟨b0, b1, b2, b3, b4, b5⟩ := b
  all_goals generalize hD : View.readCov (Val := Elt Ideal) (View.whole cc0_scratch0) _ _ = D
  all_goals
    have hDD : D = DVN a k := by
      rw [← hD]
      clear hD
      funext i
      idx_vars i
      rw [DVN_at]
      refine (congrFun (View.readCov_eq_canon' (Val := Elt Ideal) _ _ _) _).trans ?_
      canon_tiles z h
      all_goals idx_vars z
      all_goals rw [pay7_eq a k _ (by intro x j; pointwise; exact b0 _ _)]
      all_goals pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay1, mask13, U_at, b1, b4]
      all_goals try simp only [ite_mul, zero_mul]
      all_goals refine Eq.trans (dvn_at a k _ _ _ ?_) ?_
      all_goals first
        | (refine Fin.ext ?_; simp only [gr]; omega)
        | exact dvn_to a k _ _ (by simpa using h0) _ _ (by simpa using h1)
  all_goals subst hDD
  all_goals clear hD
  all_goals first
    | (canon_tiles y h using View.cover_of_tiledBy _ ![128, 256] (by sl_kernel_rfl) _
       case piece0 =>
         idx_vars y
         pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay1, pay10_eq a k _ lit_4096, DVN_at, RR_at, XH_at, b0, b2]
         rw [dgelu_at]
         exact Eq.trans (dpv_at a (row k y0) y1) (dp_hi a k x y0 h0 j _ h1)
       all_goals idx_vars y
       all_goals pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay1, mask13, e12, VN_at, b0, b1, b4, b5]
       all_goals rw [dgelu_at]
       all_goals try simp only [ite_mul, zero_mul]
       all_goals refine Eq.trans (dpu_at a k y0 _ _ ?_) ?_
       all_goals first
         | (refine Fin.ext ?_; simp only [gr]; omega)
         | exact dp_lo a k x y0 h0 j _ h1)
    | (pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay1, k0_pay4, k0_pay5, DVN_at, XH_at]
       simp only [coe_sum, EReal.coe_mul, zero_add])
end Sgu.Ker
end
-- ==== Proof.Sgu.St7.lean ====
module

public import proofs.«01_k».proof.Proof.Sgu.Step
public import Idealize.ShloMosaic.Lib.Pipeline.ReadBack

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

variable (a : Args) (k : Fin 32)
variable (m : (ℓ : Loc nD τ sig) → Buf (Elt Ideal) ℓ)

set_option maxHeartbeats 3000000 in
/-- What one grid point adds to the gradient of the spatial weights. -/
theorem st7 (c : Dev nD) (t : Fin cfg0.N) (acc) (b : Blk m c t a k) (g : Fin 16) (i s : Fin 128) :
    (stAt0 m c t.val t.isLt acc).2.1 (ix3 g i s) =
      (if t.val % 32 = 0 then (0 : EReal) else (acc.2.1 : FVec Ideal S16x128x128 .f32) (ix3 g i s)) + ((dwsC a k g i s : ℝ) : EReal) := by
  by_cases q0 : t.val % 32 = 0
  case' pos =>
    rw [stAt0_A m c t acc q0 (by omega)]
    simp only [if_pos q0]
    frame_open; simp (disch := decide) only [↓ View.readCov_skip, ↓ View.readCov_cons_toLoadRect, ↓ View.readCov_fill]; frame_out
    refine (canon_append_left (Val := Elt Ideal) [_] _ [_, _, _, _, _, _, _, _, _, _, _, _, _, _, _, _] (View.cover_of_tiledBy _ ![1, 128, 128] (by sl_kernel_rfl) _)).trans ?_
  case' neg =>
    simp only [if_neg q0]
    by_cases q1 : t.val % 32 = 31
    case' pos =>
      rw [stAt0_C m c t acc q0 q1]
      frame_out
    case' neg =>
      rw [stAt0_B m c t acc q0 q1]
      frame_out
  all_goals try rw [pay8_eq a k _ (by intro x j; pointwise; exact b.b0 _ _), pay9_eq a k _ (by intro x j; pointwise; exact b.b0 _ _)]
  all_goals rw [pay7_eq a k _ (by intro x j; pointwise; exact b.b0 _ _)]
  all_goals have e12 := pay12_eq a k _ lit_4096 _ _ b.b2 b.b3
  all_goals obtain ⟨b0, b1, b2, b3, b4, b5⟩ := b
  all_goals canon_tiles y h
  all_goals idx_vars y
  all_goals pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay1, k0_pay3, mask13, e12, U_at, VN_at, b1]
  all_goals obtain rfl : i = y1 := Fin.ext (by simpa using h1)
  all_goals obtain rfl : s = y2 := Fin.ext (by simpa using h2)
  all_goals first
    | refine dws_at a k g i s _ (fun d => Fin.ext ?_)
    | refine congrArg₂ (· + ·) (congrArg (fun g' : Fin 16 => (acc.2.1 : FVec Ideal S16x128x128 .f32) (ix3 g' i s)) (Fin.ext ?_)) (dws_at a k g i s _ (fun d => Fin.ext ?_))
  all_goals first
    | (simp only [col]; omega)
    | (refine Eq.trans ?_ h0.symm
       obtain rfl : y0 = 0 := Subsingleton.elim _ _
       rfl)

end Sgu.Ker
end
-- ==== Proof.Sgu.Sel.lean ====
module

public import proofs.«01_k».proof.Proof.Sgu.Step
public import Idealize.ShloMosaic.Lib.Routing.Words

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

/-- The word of a column's group, as the kernel divides. -/
theorem group_word (j : Fin 4096) :
    Scalar.select (IntOp.andi
      (IntOp.cmpi CmpIPredicate.ne
        (IntOp.subi (BitVec.setWidth 32 (IntOp.cmpi CmpIPredicate.sgt (BitVec.ofNat 32 j.val) 0#32))
          (BitVec.setWidth 32 (IntOp.cmpi CmpIPredicate.slt (BitVec.ofNat 32 j.val) 0#32)))
        (Scalar.subi (Scalar.extui (Scalar.cmpi CmpIPredicate.sgt 256#32 0#32)) (Scalar.extui (Scalar.cmpi CmpIPredicate.slt 256#32 0#32))))
      (IntOp.cmpi CmpIPredicate.ne (IntOp.remsi ArithUnit.vector (BitVec.ofNat 32 j.val) 256#32) 0#32))
      (IntOp.subi (IntOp.divsi ArithUnit.vector (BitVec.ofNat 32 j.val) 256#32) 1#32)
      (IntOp.divsi ArithUnit.vector (BitVec.ofNat 32 j.val) 256#32) = BitVec.ofNat 32 (j.val / 256) := by
  have hj := j.isLt
  rw [show (256#32 : BitVec 32) = BitVec.ofNat 32 256 from rfl, Routing.divsi_word _ (by omega) (by omega) (by omega), Routing.remsi_word _ (by omega) (by omega) (by omega)]
  by_cases h0 : j.val = 0
  · rw [h0]; decide
  · have e1 : IntOp.cmpi CmpIPredicate.sgt (BitVec.ofNat 32 j.val) 0#32 = 1#1 := by
      rw [show (0#32 : BitVec 32) = BitVec.ofNat 32 0 from rfl, WordCmp.cmpi_sgt_ofNat (by omega) (by omega)]
      simp only [decide_eq_true (show 0 < j.val by omega)]; rfl
    have e2 : IntOp.cmpi CmpIPredicate.slt (BitVec.ofNat 32 j.val) 0#32 = 0#1 := by
      rw [show (0#32 : BitVec 32) = BitVec.ofNat 32 0 from rfl, WordCmp.cmpi_slt_ofNat (by omega) (by omega)]
      simp only [Nat.not_lt_zero, decide_false]; rfl
    rw [e1, e2]
    have e3 : ∀ z : BitVec 1, IntOp.andi (IntOp.cmpi CmpIPredicate.ne (IntOp.subi (BitVec.setWidth 32 1#1) (BitVec.setWidth 32 0#1))
        (Scalar.subi (Scalar.extui (Scalar.cmpi CmpIPredicate.sgt (BitVec.ofNat 32 256) 0#32)) (Scalar.extui (Scalar.cmpi CmpIPredicate.slt (BitVec.ofNat 32 256) 0#32)))) z = 0#1 := by decide
    rw [e3]; rfl

/-- The selection of a group's columns. -/
theorem sel_word (j : Fin 4096) (l : Fin 128) :
    FloatOps.sitofp (F := Ideal) FTy.f32 (BitVec.setWidth 32 (IntOp.cmpi CmpIPredicate.eq (BitVec.ofNat 32 (j.val / 256)) (BitVec.ofNat 32 l.val)))
      = (((if j.val / 256 = l.val then 1 else 0 : ℝ)) : EReal) := by
  have hj := j.isLt
  have hl := l.isLt
  by_cases h : j.val / 256 = l.val
  · rw [if_pos h, h]
    have : IntOp.cmpi CmpIPredicate.eq (BitVec.ofNat 32 l.val) (BitVec.ofNat 32 l.val) = 1#1 := by simp [IntOp.cmpi]
    rw [this]; change (((1#32).toInt : ℝ) : EReal) = _; simp
  · rw [if_neg h]
    have : IntOp.cmpi CmpIPredicate.eq (BitVec.ofNat 32 (j.val / 256)) (BitVec.ofNat 32 l.val) = 0#1 := by
      rw [WordCmp.cmpi_eq_ofNat (by omega) (by omega)]; simp only [decide_eq_false h]; rfl
    rw [this]; change (((0#32).toInt : ℝ) : EReal) = _; simp

/-- A selection's sum over all columns is the sum over the group's. -/
theorem sel_sum (f : Fin 4096 → ℝ) (l : Fin 128) :
    ∑ j, f j * (if j.val / 256 = l.val then 1 else 0) = if h : l.val < 16 then ∑ d : Fin 256, f (col ⟨l.val, h⟩ d) else 0 := by
  rw [sum_col]
  split
  · rename_i h
    rw [Finset.sum_eq_single (⟨l.val, h⟩ : Fin 16)]
    · refine Finset.sum_congr rfl fun d _ => ?_
      rw [if_pos (by simp only [col]; omega), mul_one]
    · intro g _ hg
      refine Finset.sum_eq_zero fun d _ => ?_
      rw [if_neg (fun e => hg (Fin.ext (by simp only [col] at e; simp only; omega))), mul_zero]
    · intro h'; exact absurd (Finset.mem_univ _) h'
  · rename_i h
    refine Finset.sum_eq_zero fun g _ => Finset.sum_eq_zero fun d _ => ?_
    rw [if_neg (fun e => h (by simp only [col] at e; omega)), mul_zero]

/-- The last point's product: each group's columns summed, zero past the groups. -/
theorem pay2_at (D : FVec Ideal S128x4096 .f32) (S : Fin 128 → Fin 4096 → ℝ) (hD : ∀ x j, D (ix2 x j) = ((S x j : ℝ) : EReal)) (x l : Fin 128) :
    k0_pay2 (F := Ideal) D (ix2 x l) = (((if h : l.val < 16 then ∑ d : Fin 256, S x (col ⟨l.val, h⟩ d) else 0 : ℝ)) : EReal) := by
  pointwise [k0_pay2, hD]
  simp only [group_word, sel_word, ← EReal.coe_sub, sub_self, EReal.coe_zero, sub_zero, zero_mul, Finset.sum_const_zero, add_zero, ← EReal.coe_mul, ← coe_sum]
  rw [sel_sum]

end Sgu.Ker
end
-- ==== Proof.Sgu.St10.lean ====
module

public import proofs.«01_k».proof.Proof.Sgu.Sel
public import Idealize.ShloMosaic.Lib.Pipeline.ReadBack

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

variable (a : Args) (k : Fin 32)
variable (m : (ℓ : Loc nD τ sig) → Buf (Elt Ideal) ℓ)

set_option maxHeartbeats 3000000 in
/-- At the last grid point: the carried sum, each group's columns summed. -/
theorem st10 (c : Dev nD) (t : Fin cfg0.N) (acc) (b : Blk m c t a k) (q1 : t.val % 32 = 31) (S : Fin 128 → Fin 4096 → ℝ)
    (hS : ∀ x j, (acc.2.2.2.2.2 : FVec Ideal S128x4096 .f32) (ix2 x j) = ((S x j : ℝ) : EReal)) (x l : Fin 128) :
    (stAt0 m c t.val t.isLt acc).2.2.2.2.1 (ix2 x l)
      = (((if h : l.val < 16 then ∑ d : Fin 256, (S x (col ⟨l.val, h⟩ d) + dmix a (row k x) (col ⟨l.val, h⟩ d)) else 0 : ℝ)) : EReal) := by
  rw [stAt0_C m c t acc (by omega) q1]
  frame_out
  rw [pay7_eq a k _ (by intro x j; pointwise; exact b.b0 _ _)]
  obtain ⟨b0, b1, b2, b3, b4, b5⟩ := b
  generalize hD : View.readCov (Val := Elt Ideal) (View.whole cc0_scratch1) _ _ = D
  refine pay2_at D (fun x j => S x j + dmix a (row k x) j) (fun x j => ?_) x l
  rw [← hD]
  refine (congrFun (View.readCov_eq_canon' (Val := Elt Ideal) _ _ _) _).trans ?_
  clear hD D
  canon_tiles y h
  all_goals idx_vars y
  all_goals pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay1, U_at, b1]
  all_goals rw [read_unread_whole, hS, EReal.coe_add]
  all_goals obtain rfl : x = y0 := Fin.ext (by simpa using h0)
  all_goals refine congrArg₂ (· + ·) (congrArg (fun j' : Fin 4096 => ((S x j' : ℝ) : EReal)) (Fin.ext ?_)) (dmix_to a k x j _ (by simpa using h1))
  all_goals simpa using h1.symm

end Sgu.Ker
end
-- ==== Proof.Sgu.St11.lean ====
module

public import proofs.«01_k».proof.Proof.Sgu.Step
public import Idealize.ShloMosaic.Lib.Pipeline.ReadBack

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

variable (a : Args) (k : Fin 32)
variable (m : (ℓ : Loc nD τ sig) → Buf (Elt Ideal) ℓ)

set_option maxHeartbeats 3000000 in
/-- What one grid point adds to the carried sum of the cotangents of the mixed values. -/
theorem st11 (c : Dev nD) (t : Fin cfg0.N) (acc) (b : Blk m c t a k) (x : Fin 128) (j : Fin 4096) :
    (stAt0 m c t.val t.isLt acc).2.2.2.2.2 (ix2 x j) =
      (if t.val % 32 = 0 then (0 : EReal) else (acc.2.2.2.2.2 : FVec Ideal S128x4096 .f32) (ix2 x j)) + ((dmix a (row k x) j : ℝ) : EReal) := by
  by_cases q0 : t.val % 32 = 0
  case' pos =>
    rw [stAt0_A m c t acc q0 (by omega)]
    simp only [if_pos q0]
    frame_open; simp (disch := decide) only [↓ View.readCov_skip, ↓ View.readCov_cons_toLoadRect, ↓ View.readCov_fill]; frame_out
    refine (canon_append_left (Val := Elt Ideal) [_] _ [_, _, _, _, _, _, _, _, _, _, _, _, _, _, _, _] (View.cover_of_tiledBy _ ![128, 256] (by sl_kernel_rfl) _)).trans ?_
  case' neg =>
    simp only [if_neg q0]
    by_cases q1 : t.val % 32 = 31
    case' pos =>
      rw [stAt0_C m c t acc q0 q1]
      frame_out
    case' neg =>
      rw [stAt0_B m c t acc q0 q1]
      frame_out
  all_goals rw [pay7_eq a k _ (by intro x j; pointwise; exact b.b0 _ _)]
  all_goals obtain ⟨b0, b1, b2, b3, b4, b5⟩ := b
  all_goals canon_tiles y h
  all_goals idx_vars y
  all_goals pointwise [k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay1, k0_pay6, U_at, b1]
  all_goals try rw [read_unread_whole]
  all_goals obtain rfl : x = y0 := Fin.ext (by simpa using h0)
  all_goals first
    | exact dmix_to a k x j _ (by simpa using h1)
    | refine congrArg₂ (· + ·) (congrArg (fun j' : Fin 4096 => (acc.2.2.2.2.2 : FVec Ideal S128x4096 .f32) (ix2 x j')) (Fin.ext ?_)) (dmix_to a k x j _ (by simpa using h1))
  all_goals simpa using h1.symm

end Sgu.Ker
end
-- ==== Proof.Sgu.Results.lean ====
/- The kernel's five results, as real arrays of the specification. -/
module

public import proofs.«01_k».proof.Proof.Sgu.Blocks
public import proofs.«01_k».proof.Proof.Sgu.St689
public import proofs.«01_k».proof.Proof.Sgu.St7
public import proofs.«01_k».proof.Proof.Sgu.St10
public import proofs.«01_k».proof.Proof.Sgu.St11

@[expose] public section

set_option maxRecDepth 16384

noncomputable section

namespace Sgu.Ker

open Cert.KernelIdeal Cert.KernelIdeal.Gen Cert.KernelIdeal.Value Idealize.ShloMosaic Idealize.ShloMosaic.TcCoe Idealize.SL.Sem

variable (m : (ℓ : Loc nD τ sig) → Buf (Elt Ideal) ℓ) (a : Args) (c : Dev nD)

/-- The gradient of the input. -/
theorem g6_at (M : Mem m c a) (i : Fin 4096) (j : Fin 8192) :
    (G6 m c : FVec Ideal S4096x8192 .bf16) (ix2 i j)
      = if h : j.val < 4096 then ((dpu a i ⟨j.val, h⟩ : ℝ) : EReal) else ((dpv a i ⟨j.val - 4096, by omega⟩ : ℝ) : EReal) := by
  have hj := j.isLt
  have hi := i.isLt
  have hp : pt6Of (ix2 i j) = i.val / 128 := by
    show 1 * (i.val / 128 - 0) + 1 * (j.val / 8192 - 0) = _
    omega
  have hN : pt6Of (ix2 i j) < cfg0.N := by rw [hp]; exact lt_of_lt_of_eq (by omega) N_0.symm
  have hN' : 0 + pt6Of (ix2 i j) < cfg0.N := by rw [Nat.zero_add]; exact hN
  have hl : loc6Of (ix2 i j) = ix2 (⟨i.val % 128, Nat.mod_lt _ (by decide)⟩ : Fin 128) j := by
    funext b
    match b with
    | ⟨0, _⟩ => rfl
    | ⟨1, _⟩ => exact Fin.ext (Nat.mod_eq_of_lt hj)
  obtain ⟨acc, e⟩ := at_step m c (pt6Of (ix2 i j)) hN'
  have er : row (pt (0 + pt6Of (ix2 i j))) (⟨i.val % 128, Nat.mod_lt _ (by decide)⟩ : Fin 128) = i := by
    refine Fin.ext ?_
    simp only [row, pt, hp]; omega
  have key := (st689 a (pt (0 + pt6Of (ix2 i j))) m c ⟨_, hN'⟩ acc (blk m c a M ⟨_, hN'⟩)).1 (⟨i.val % 128, Nat.mod_lt _ (by decide)⟩ : Fin 128) j
  rw [er] at key
  refine Eq.trans ?_ key
  unfold G6
  rw [dif_pos hN, hl]
  exact congrArg (fun s : St => s.1 (ix2 (⟨i.val % 128, Nat.mod_lt _ (by decide)⟩ : Fin 128) j)) e

/-- The gradient of the spatial weights. -/
theorem g7_at (M : Mem m c a) (g : Fin 16) (t s : Fin 128) : (G7 m c : FVec Ideal S16x128x128 .f32) (ix3 g t s) = ((dws a g t s : ℝ) : EReal) := by
  rw [G7_last]
  refine (fold m c (fun S => S.2.1 (ix3 g t s)) (fun k => dwsC a k g t s)
    (fun n acc => st7 a (pt n.val) m c n acc (blk m c a M n) g t s) 31 _).trans ?_
  rw [sum_pt (fun k => dwsC a k g t s)]
  simp only [dwsC, dws]
  split
  · rfl
  · rw [Finset.sum_const_zero]

/-- The gradient of the scale. -/
theorem g8_at (M : Mem m c a) (z : Fin 1) (j : Fin 4096) : (G8 m c : FVec Ideal S1x4096 .f32) (ix2 z j) = ((dvg a j : ℝ) : EReal) := by
  rw [G8_last]
  refine (fold m c (fun S => S.2.2.1 (ix2 z j)) (fun k => ∑ x, dvn a (row k x) j * xh a (row k x) j)
    (fun n acc => (st689 a (pt n.val) m c n acc (blk m c a M n)).2.1 z j) 31 _).trans ?_
  rw [sum_pt (fun k => ∑ x, dvn a (row k x) j * xh a (row k x) j), dvg, sum_row]

/-- The gradient of the shift. -/
theorem g9_at (M : Mem m c a) (z : Fin 1) (j : Fin 4096) : (G9 m c : FVec Ideal S1x4096 .f32) (ix2 z j) = ((dvb a j : ℝ) : EReal) := by
  rw [G9_last]
  refine (fold m c (fun S => S.2.2.2.1 (ix2 z j)) (fun k => ∑ x, dvn a (row k x) j)
    (fun n acc => (st689 a (pt n.val) m c n acc (blk m c a M n)).2.2 z j) 31 _).trans ?_
  rw [sum_pt (fun k => ∑ x, dvn a (row k x) j), dvb, sum_row]

/-- The carried sum at the last grid point, each group's columns summed. -/
theorem last_at (M : Mem m c a) (n : ℕ) (h : 0 + (n + 1) < cfg0.N) (hn : (0 + (n + 1)) % 32 = 31) (x l : Fin 128) :
    (at_ m c (n + 1) h).2.2.2.2.1 (ix2 x l)
      = (((if h : l.val < 16 then ∑ d : Fin 256, (∑ k ∈ Finset.range (n + 1), dmix a (row (pt k) x) (col ⟨l.val, h⟩ d)
          + dmix a (row (pt (0 + (n + 1))) x) (col ⟨l.val, h⟩ d)) else 0 : ℝ)) : EReal) :=
  st10 a (pt (0 + (n + 1))) m c ⟨0 + (n + 1), h⟩ (at_ m c n (Nat.lt_of_succ_lt h)) (blk m c a M _) hn
    (fun x j => ∑ k ∈ Finset.range (n + 1), dmix a (row (pt k) x) j)
    (fun x j => fold m c (fun S => S.2.2.2.2.2 (ix2 x j)) (fun k => dmix a (row k x) j)
      (fun n acc => st11 a (pt n.val) m c n acc (blk m c a M n) x j) n (Nat.lt_of_succ_lt h)) x l

/-- The gradient of the spatial bias, its rows transposed and padded. -/
theorem g10_at (M : Mem m c a) (x l : Fin 128) :
    (G10 m c : FVec Ideal S128x128 .f32) (ix2 x l) = (((if h : l.val < 16 then dbs a x ⟨l.val, h⟩ else 0 : ℝ)) : EReal) := by
  rw [G10_last]
  refine (last_at m a c M 30 (lt_of_lt_of_eq (by decide) N_0.symm) (by decide) x l).trans (congrArg _ ?_)
  by_cases h : l.val < 16
  · rw [dif_pos h, dif_pos h, dbs, Finset.sum_comm]
    refine Finset.sum_congr rfl fun d _ => ?_
    rw [← sum_pt (fun k => dmix a (row k x) (col ⟨l.val, h⟩ d)), Finset.sum_range_succ _ 31]
  · rw [dif_neg h, dif_neg h]

end Sgu.Ker
end
-- ==== Proof.Sgu.Ref.lean ====
/- The reference's operations, one stage after another, at finite arguments: each is the real array of the
   specification. -/
module

public import proofs.«01_k».proof.Proof.Sgu.Spec
public import proofs.«01_k».proof.Proof.Gen.ReferenceIdeal.Read

@[expose] public section

set_option maxRecDepth 16384

noncomputable section

namespace Sgu.Ref

open Cert.ReferenceIdeal Cert.ReferenceIdeal.Gen Cert.ReferenceIdeal.Read Idealize.ShloMosaic Idealize.ShloMosaic.TcCoe

/-- The first argument. -/
def aP (a : Args) : FVec Ideal S4096x8192 .f32 := fun i => ((a.p (i 0) (i 1) : ℝ) : EReal)
/-- The cotangent. -/
def aG (a : Args) : FVec Ideal S4096x4096 .f32 := fun i => ((a.dg (i 0) (i 1) : ℝ) : EReal)
/-- The scale. -/
def aVg (a : Args) : FVec Ideal S1x4096 .f32 := fun i => ((a.vg (i 1) : ℝ) : EReal)
/-- The shift. -/
def aVb (a : Args) : FVec Ideal S1x4096 .f32 := fun i => ((a.vb (i 1) : ℝ) : EReal)
/-- The spatial weights. -/
def aWs (a : Args) : FVec Ideal S16x128x128 .f32 := fun i => ((a.ws (i 0) (i 1) (i 2) : ℝ) : EReal)
/-- The spatial bias. -/
def aBs (a : Args) : FVec Ideal S16x128 .f32 := fun i => ((a.bs (i 0) (i 1) : ℝ) : EReal)

variable (a : Args)

/-- The coefficient of the cubic term. -/
theorem v0_at (i : S_.Idx) : val_main_v0 (F := Ideal) i = ((c0 : ℝ) : EReal) := by
  pointwise [val_main_v0, val_main_cst, val_main_cst_0, lit_8943, lit_200000]
  rw [coe_div _ _ (by norm_num)]; rfl

/-- The hyperbolic tangent. -/
theorem v11_at (i : Fin 4096) (j : Fin 8192) : val_main_v11 (F := Ideal) (aP a) (ix2 i j) = ((th (a.p i j) : ℝ) : EReal) := by
  pointwise [val_main_v11, val_main_v10, val_main_v9, val_main_cst_2, val_main_v8, val_main_v7, val_main_v6, v0_at, val_main_v2, val_main_v1, aP, lit_gc]
  simp only [← EReal.coe_mul, ← EReal.coe_add, Ideal.tanh_coe]
  rfl

/-- Half of one plus it. -/
theorem v20_at (i : Fin 4096) (j : Fin 8192) : val_main_v20 (F := Ideal) (aP a) (ix2 i j) = ((1 / 2 * (1 + th (a.p i j)) : ℝ) : EReal) := by
  pointwise [val_main_v20, val_main_v19, val_main_cst_6, val_main_v18, val_main_v17, val_main_cst_5, v11_at, lit_half]
  simp only [lit_1, ← EReal.coe_mul, ← EReal.coe_add]

/-- The activation. -/
theorem v21_at (i : Fin 4096) (j : Fin 8192) : val_main_v21 (F := Ideal) (aP a) (ix2 i j) = ((gl (a.p i j) : ℝ) : EReal) := by
  pointwise [val_main_v21, v20_at, aP]
  simp only [← EReal.coe_mul]; rfl

/-- The gate half. -/
theorem v22_at (i j : Fin 4096) : val_main_v22 (F := Ideal) (aP a) (ix2 i j) = ((u a i j : ℝ) : EReal) := by
  pointwise [val_main_v22, v21_at]
  rfl

/-- The value half. -/
theorem v23_at (i j : Fin 4096) : val_main_v23 (F := Ideal) (aP a) (ix2 i j) = ((v a i j : ℝ) : EReal) := by
  pointwise [val_main_v23, v21_at]
  rfl

/-- The centred value half. -/
theorem v29_at (i j : Fin 4096) : val_main_v29 (F := Ideal) (aP a) (ix2 i j) = ((xc a i j : ℝ) : EReal) := by
  pointwise [val_main_v29, val_main_v28, val_main_v27, val_main_v26, val_main_cst_8, val_main_v25, val_main_v24, val_main_cst_7, v23_at, lit_4096]
  rw [← coe_sum, coe_div _ _ (by norm_num), ← EReal.coe_sub]; rfl

/-- The variance plus epsilon. -/
theorem v36_at (i : Fin 4096) (z : Fin 1) : val_main_v36 (F := Ideal) (aP a) (ix2 i z) = ((var a i + ep : ℝ) : EReal) := by
  pointwise [val_main_v36, val_main_v35, val_main_cst_11, val_main_v34, val_main_v33, val_main_cst_10, val_main_v32, val_main_v31, val_main_cst_9, val_main_v30, v29_at, lit_4096, lit_ep]
  simp only [← EReal.coe_mul]
  rw [← coe_sum, coe_div _ _ (by norm_num), ← EReal.coe_add]; rfl

/-- The reciprocal deviation. -/
theorem v37_at (i : Fin 4096) (z : Fin 1) : val_main_v37 (F := Ideal) (aP a) (ix2 i z) = ((rr a i : ℝ) : EReal) := by
  pointwise [val_main_v37, v36_at]
  rw [coe_rsqrt _ (var_pos a i)]; rfl

/-- The factor of the variance's cotangent. -/
theorem v40_at (i : Fin 4096) (z : Fin 1) : val_main_v40 (F := Ideal) (aP a) (ix2 i z) = ((-(1 / 2) * (rr a i / (var a i + ep)) : ℝ) : EReal) := by
  pointwise [val_main_v40, val_main_v39, val_main_cst_12, val_main_v38, v37_at, v36_at, lit_neg_half]
  rw [coe_div _ _ (var_pos a i).ne', ← EReal.coe_mul]

/-- The normalised value half. -/
theorem v42_at (i j : Fin 4096) : val_main_v42 (F := Ideal) (aP a) (ix2 i j) = ((xh a i j : ℝ) : EReal) := by
  pointwise [val_main_v42, val_main_v41, v37_at, v29_at]
  rw [← EReal.coe_mul]; rfl

/-- The scaled and shifted value half. -/
theorem v46_at (i j : Fin 4096) : val_main_v46 (F := Ideal) (aP a) (aVg a) (aVb a) (ix2 i j) = ((vn a i j : ℝ) : EReal) := by
  pointwise [val_main_v46, val_main_v45, val_main_v44, val_main_v43, v42_at, aVg, aVb]
  rw [← EReal.coe_mul, ← EReal.coe_add]; rfl

/-- The scaled and shifted value half, in chunks and groups. -/
theorem v47_at (c : Fin 32) (t : Fin 128) (g : Fin 16) (d : Fin 256) :
    val_main_v47 (F := Ideal) (aP a) (aVg a) (aVb a) (ix4 c t g d) = ((vn a (row c t) (col g d) : ℝ) : EReal) := by
  pointwise [val_main_v47, v46_at]
  rfl

/-- The causal mask. -/
theorem v49_at (t s : Fin 128) : val_main_v49 (F := Ideal) (ix2 t s) = (((if s ≤ t then 1 else 0 : ℝ)) : EReal) := by
  pointwise [val_main_v49, val_main_v48, val_main_cst_13, val_main_call0_v5, val_main_call0_cst, val_main_call0_v4, val_main_call0_v3, val_main_call0_v2, val_main_call0_v1, val_main_call0_c, val_main_call0_v0]
  have e : IntOp.addi (BitVec.ofNat 32 (t : ℕ)) 0#32 = BitVec.ofNat 32 (t : ℕ) := by simp [IntOp.addi]
  rw [e]
  word_cmp
  by_cases h : s ≤ t
  · rw [if_pos h, if_pos (by exact h)]; rfl
  · rw [if_neg h, if_neg (by exact h)]; rfl

/-- The causal weights. -/
theorem v52_at (g : Fin 16) (t s : Fin 128) : val_main_v52 (F := Ideal) (aWs a) (ix3 g t s) = ((w a g t s : ℝ) : EReal) := by
  pointwise [val_main_v52, val_main_v51, val_main_v50, v49_at, aWs]
  rw [← EReal.coe_mul]
  unfold w; split <;> simp

/-- The mixed values. -/
theorem v59_at (i j : Fin 4096) : val_main_v59 (F := Ideal) (aP a) (aVg a) (aVb a) (aWs a) (aBs a) (ix2 i j) = ((mix a i j : ℝ) : EReal) := by
  pointwise [val_main_v59, val_main_v58, val_main_v57, val_main_v56, val_main_v55, val_main_v54, val_main_v53, v52_at, v47_at, aBs]
  simp only [← EReal.coe_mul]
  rw [← coe_sum, ← EReal.coe_add]
  unfold mix
  refine congrArg _ (congrArg (· + _) (Finset.sum_congr rfl fun s _ => ?_))
  rw [mul_comm]
  exact congrArg (fun k => _ * vn a _ k) (col_gr_di j)

/-- The cotangent of the mixed values. -/
theorem v61_at (i j : Fin 4096) : val_main_v61 (F := Ideal) (aP a) (aG a) (ix2 i j) = ((dmix a i j : ℝ) : EReal) := by
  pointwise [val_main_v61, v22_at, aG]
  rw [← EReal.coe_mul, mul_comm]; rfl

/-- The cotangent of the mixed values, in chunks and groups. -/
theorem v63_at (c : Fin 32) (t : Fin 128) (g : Fin 16) (d : Fin 256) :
    val_main_v63 (F := Ideal) (aP a) (aG a) (ix4 c t g d) = ((dmix a (row c t) (col g d) : ℝ) : EReal) := by
  pointwise [val_main_v63, v61_at]
  rfl

/-- The cotangent of the values before the mixing. -/
theorem v74_at (i j : Fin 4096) : val_main_v74 (F := Ideal) (aP a) (aG a) (aWs a) (ix2 i j) = ((dvn a i j : ℝ) : EReal) := by
  pointwise [val_main_v74, val_main_v71, val_main_v70, val_main_v68, v63_at, v52_at]
  simp only [← EReal.coe_mul]
  rw [← coe_sum]
  unfold dvn
  refine congrArg _ (Finset.sum_congr rfl fun s _ => ?_)
  rw [mul_comm]
  exact congrArg (fun k => _ * dmix a _ k) (col_gr_di j)

/-- The gradient of the spatial weights. -/
theorem v73_at (g : Fin 16) (t s : Fin 128) : val_main_v73 (F := Ideal) (aP a) (aG a) (aVg a) (aVb a) (ix3 g t s) = ((dws a g t s : ℝ) : EReal) := by
  pointwise [val_main_v73, val_main_v72, val_main_v50, v49_at, val_main_v69, val_main_v68, v63_at, v47_at]
  simp only [← EReal.coe_mul, ← coe_sum]
  unfold dws
  split <;> simp

/-- The gradient of the scale. -/
theorem v79_at (z : Fin 1) (j : Fin 4096) : val_main_v79 (F := Ideal) (aP a) (aG a) (aWs a) (ix2 z j) = ((dvg a j : ℝ) : EReal) := by
  pointwise [val_main_v79, val_main_v78, val_main_cst_17, val_main_v77, v42_at, v74_at]
  simp only [← EReal.coe_mul]
  rw [← coe_sum]
  unfold dvg; simp only [mul_comm]

/-- The gradient of the shift. -/
theorem v76_at (z : Fin 1) (j : Fin 4096) : val_main_v76 (F := Ideal) (aP a) (aG a) (aWs a) (ix2 z j) = ((dvb a j : ℝ) : EReal) := by
  pointwise [val_main_v76, val_main_v75, val_main_cst_16, v74_at]
  rw [← coe_sum]; rfl

/-- The cotangent of the normalised value half. -/
theorem v81_at (i j : Fin 4096) : val_main_v81 (F := Ideal) (aP a) (aG a) (aVg a) (aWs a) (ix2 i j) = ((dxh a i j : ℝ) : EReal) := by
  pointwise [val_main_v81, val_main_v80, v74_at, aVg]
  rw [← EReal.coe_mul]; rfl

/-- The variance's share of the cotangent. -/
def sv (i : Fin 4096) : ℝ := ((∑ j, xc a i j * dxh a i j) * (-(1 / 2) * (rr a i / (var a i + ep)))) / 4096

/-- The variance's share of the cotangent, along a row. -/
theorem v91_at (i j : Fin 4096) : val_main_v91 (F := Ideal) (aP a) (aG a) (aVg a) (aWs a) (ix2 i j) = ((sv a i : ℝ) : EReal) := by
  pointwise [val_main_v91, val_main_v90, val_main_cst_20, val_main_v89, val_main_v88, val_main_cst_19, val_main_v87, v40_at, val_main_v84, val_main_v83, val_main_cst_18, val_main_v82, v29_at, v81_at, lit_4096]
  simp only [← EReal.coe_mul, ← coe_sum]
  rw [coe_div _ _ (by norm_num), ← coe_sum, Finset.sum_const, Finset.card_univ, Fintype.card_fin, one_smul]; rfl

/-- The centred value half's cotangent. -/
theorem v95_at (i j : Fin 4096) : val_main_v95 (F := Ideal) (aP a) (aG a) (aVg a) (aWs a) (ix2 i j)
    = ((dxh a i j * rr a i + xc a i j * sv a i + sv a i * xc a i j : ℝ) : EReal) := by
  pointwise [val_main_v95, val_main_v94, val_main_v93, val_main_v92, val_main_v86, val_main_v85, v91_at, v29_at, v81_at, v37_at]
  simp only [← EReal.coe_mul, ← EReal.coe_add]

/-- The layer normalisation's backward pass in its two forms. -/
theorem dv_eq (i j : Fin 4096) :
    (dxh a i j * rr a i + xc a i j * sv a i + sv a i * xc a i j)
      + (∑ k, -(dxh a i k * rr a i + xc a i k * sv a i + sv a i * xc a i k)) / 4096 = dv a i j := by
  have h : rr a i / (var a i + ep) = rr a i * rr a i * rr a i := by
    rw [div_eq_iff (var_pos a i).ne', mul_assoc, mul_assoc, ← mul_assoc (rr a i) (rr a i) (var a i + ep), rr_sq, mul_one]
  have h0 := sum_xc a i
  rw [Finset.sum_neg_distrib, Finset.sum_add_distrib, Finset.sum_add_distrib, ← Finset.sum_mul, ← Finset.sum_mul, ← Finset.mul_sum, h0]
  unfold dv sv
  rw [h]
  have e : ∑ k, dxh a i k * xh a i k = (∑ k, xc a i k * dxh a i k) * rr a i := by
    rw [Finset.sum_mul]; exact Finset.sum_congr rfl fun k _ => by unfold xh; ring
  rw [e]; unfold xh; ring

/-- The cotangent of the value half. -/
theorem v103_at (i j : Fin 4096) : val_main_v103 (F := Ideal) (aP a) (aG a) (aVg a) (aWs a) (ix2 i j) = ((dv a i j : ℝ) : EReal) := by
  pointwise [val_main_v103, val_main_v102, val_main_v101, val_main_cst_23, val_main_v100, val_main_v99, val_main_cst_22, val_main_v98, val_main_v97, val_main_cst_21, val_main_v96, v95_at, lit_4096]
  simp only [← EReal.coe_neg, ← coe_sum]
  rw [coe_div _ _ (by norm_num), ← coe_sum, Finset.sum_const, Finset.card_univ, Fintype.card_fin, one_smul,
    ← EReal.coe_add, dv_eq]

/-- The activation's backward pass. -/
theorem gelu_bwd (x ct : ℝ) :
    ct * (1 / 2 * (1 + th x)) + gc * (1 / 2 * (x * ct) * ((1 + th x) * (1 - th x)))
      + c0 * (gc * (1 / 2 * (x * ct) * ((1 + th x) * (1 - th x)))) * (3 * (x * x)) = ct * dgl x := by
  unfold dgl; ring

/-- The activation's backward pass as the reference computes it. -/
theorem v117_of (i : Fin 4096) (j : Fin 8192) (ct : ℝ)
    (h : val_main_v104 (F := Ideal) (aP a) (aG a) (aVg a) (aVb a) (aWs a) (aBs a) (ix2 i j) = ((ct : ℝ) : EReal)) :
    val_main_v117 (F := Ideal) (aP a) (aG a) (aVg a) (aVb a) (aWs a) (aBs a) (ix2 i j) = ((ct * dgl (a.p i j) : ℝ) : EReal) := by
  pointwise [val_main_v117, val_main_v116, val_main_v115, val_main_v114, val_main_v113, v0_at, val_main_v112, val_main_v111, val_main_v110, val_main_cst_25, val_main_v109, val_main_v108, val_main_v107, val_main_cst_24, val_main_v106, val_main_v105, h, v20_at, val_main_v16, val_main_v13, val_main_v12, val_main_cst_3, val_main_v15, val_main_v14, val_main_cst_4, v11_at, val_main_v5, val_main_v4, val_main_cst_1, val_main_v3, aP, lit_3, lit_half, lit_gc]
  simp only [lit_1, ← EReal.coe_mul, ← EReal.coe_add, ← EReal.coe_sub]
  rw [← gelu_bwd]

/-- The first half of the gradient of the input. -/
theorem v117_lo (i j : Fin 4096) : val_main_v117 (F := Ideal) (aP a) (aG a) (aVg a) (aVb a) (aWs a) (aBs a) (ix2 i (lo j)) = ((dpu a i j : ℝ) : EReal) := by
  refine (v117_of a i (lo j) (a.dg i j * mix a i j) ?_).trans rfl
  pointwise [val_main_v104]
  rw [dif_pos (show ((lo j : Fin 8192) : ℕ) < 4096 from j.isLt)]
  pointwise [val_main_v62, aG]
  rw [EReal.coe_mul]
  exact congrArg _ (v59_at a i j)

/-- The second half of the gradient of the input. -/
theorem v117_hi (i j : Fin 4096) : val_main_v117 (F := Ideal) (aP a) (aG a) (aVg a) (aVb a) (aWs a) (aBs a) (ix2 i (hi j)) = ((dpv a i j : ℝ) : EReal) := by
  refine (v117_of a i (hi j) (dv a i j) ?_).trans rfl
  pointwise [val_main_v104]
  rw [dif_neg (show ¬ ((hi j : Fin 8192) : ℕ) < 4096 by simp only [hi]; omega)]
  refine Eq.trans (congrArg (fun k => val_main_v103 (F := Ideal) (aP a) (aG a) (aVg a) (aWs a) (ix2 i k)) ?_) (v103_at a i j)
  exact Fin.ext (by simp only [hi]; omega)

/-- The host's sum over the first and the last of four axes. -/
theorem reduce03 {n0 n1 n2 n3 : ℕ} (h : (⟨4, ![n0, n1, n2, n3]⟩ : Shape).ReducesTo [0, 3] ⟨2, ![n1, n2]⟩)
    (x : (⟨4, ![n0, n1, n2, n3]⟩ : Shape).Idx → EReal) (init : EReal) (t : Fin n1) (g : Fin n2) :
    Ideal.hostReduceAdd h x init (ix2 t g) = init + ∑ c : Fin n0, ∑ d : Fin n3, x (ix4 c t g d) := by
  unfold Ideal.hostReduceAdd
  refine congrArg _ ?_
  rw [← Fintype.sum_prod_type' (f := fun c d => x (ix4 c t g d))]
  refine Finset.sum_nbij' (fun i => ((i 0 : Fin n0), (i 3 : Fin n3))) (fun p => ix4 p.1 t g p.2) ?_ ?_ ?_ ?_ ?_
  · intro i _; exact Finset.mem_univ _
  · intro p _
    rw [Finset.mem_filter]
    refine ⟨Finset.mem_univ _, ?_⟩
    funext b
    fin_cases b <;> rfl
  · intro i hi
    have e := (Finset.mem_filter.mp hi).2
    have e0 : (i 1 : Fin n1) = t := Fin.ext (congrArg Fin.val (congrFun e 0))
    have e1 : (i 2 : Fin n2) = g := Fin.ext (congrArg Fin.val (congrFun e 1))
    rw [← e0, ← e1]
    exact (eq_ix4 i).symm
  · intro p _; rfl
  · intro i hi
    have e := (Finset.mem_filter.mp hi).2
    have e0 : (i 1 : Fin n1) = t := Fin.ext (congrArg Fin.val (congrFun e 0))
    have e1 : (i 2 : Fin n2) = g := Fin.ext (congrArg Fin.val (congrFun e 1))
    rw [← e0, ← e1]
    exact congrArg x (eq_ix4 i)

/-- The gradient of the spatial bias, summed over chunks and columns. -/
theorem v64_at (t : Fin 128) (g : Fin 16) : val_main_v64 (F := Ideal) (aP a) (aG a) (ix2 t g) = ((dbs a t g : ℝ) : EReal) := by
  refine (reduce03 reducesTo_S32x128x16x256_S128x16_d0_3 _ _ t g).trans ?_
  pointwise [val_main_cst_14, v63_at]
  simp only [zero_add, ← coe_sum]; rfl

/-- The gradient of the spatial bias, summed. -/
theorem v66_at (t : Fin 128) (g : Fin 16) : val_main_v66 (F := Ideal) (aP a) (aG a) (ix2 t g) = ((dbs a t g : ℝ) : EReal) := by
  refine (reduce03 reducesTo_S1x128x16x1_S128x16_d0_3 _ _ t g).trans ?_
  pointwise [val_main_cst_15, val_main_v65, v64_at]
  simp

/-- The gradient of the spatial bias. -/
theorem v119_at (t l : Fin 128) : val_main_v119 (F := Ideal) (aP a) (aG a) (ix2 t l)
    = (((if h : l.val < 16 then dbs a t ⟨l.val, h⟩ else 0 : ℝ)) : EReal) := by
  pointwise [val_main_v119, val_main_call1_v0, val_main_c, val_main_v118, val_main_v67, v66_at]
  split
  · rfl
  · change (((0#32).toInt : ℝ) : EReal) = _; simp

end Sgu.Ref

end
-- ==== Proof.Sgu.Claims.lean ====
/- The claims of the gating backward: frames, the named constants, and the values. -/
module

public import proofs.«01_k».proof.Defs
public import proofs.«01_k».proof.Proof.Sgu.Results
public import proofs.«01_k».proof.Proof.Sgu.Ref
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import Idealize.ShloMosaic.Lib.Quiescent

@[expose] public section

set_option maxRecDepth 16384

noncomputable section

namespace Sgu.Claims

open Idealize.ShloMosaic Idealize.ShloMosaic.TcCoe Idealize.SL.Sem

/-- The real arrays that finite arguments hold. -/
def args (x0 : FVec Ideal Cert.KernelIdeal.S4096x8192 .f32) (x1 : FVec Ideal Cert.KernelIdeal.S4096x4096 .f32) (x2 x3 : FVec Ideal Cert.KernelIdeal.S1x4096 .f32)
    (x4 : FVec Ideal Cert.KernelIdeal.S16x128x128 .f32) (x5 : FVec Ideal Cert.KernelIdeal.S16x128 .f32) : Args where
  p i j := (x0 (ix2 i j)).toReal
  dg i j := (x1 (ix2 i j)).toReal
  vg j := (x2 (ix2 0 j)).toReal
  vb j := (x3 (ix2 0 j)).toReal
  ws g t s := (x4 (ix3 g t s)).toReal
  bs g t := (x5 (ix2 g t)).toReal

/-- The launch memory's arrays, entry by entry real, are the arrays of the reference's arguments. -/
theorem mem_eq (m : (ℓ : Loc Cert.KernelIdeal.nD Cert.KernelIdeal.τ Cert.KernelIdeal.sig) → Buf (Elt Ideal) ℓ) (a : Args) (c : Dev Cert.KernelIdeal.nD)
    (M : Ker.Mem m c a) :
    m ((c.tc : Thread Cert.KernelIdeal.nD Cert.KernelIdeal.τ).loc Cert.KernelIdeal.main_arg0) = Ref.aP a
    ∧ m ((c.tc : Thread Cert.KernelIdeal.nD Cert.KernelIdeal.τ).loc Cert.KernelIdeal.main_arg1) = Ref.aG a
    ∧ m ((c.tc : Thread Cert.KernelIdeal.nD Cert.KernelIdeal.τ).loc Cert.KernelIdeal.main_arg2) = Ref.aVg a
    ∧ m ((c.tc : Thread Cert.KernelIdeal.nD Cert.KernelIdeal.τ).loc Cert.KernelIdeal.main_arg3) = Ref.aVb a
    ∧ m ((c.tc : Thread Cert.KernelIdeal.nD Cert.KernelIdeal.τ).loc Cert.KernelIdeal.main_arg4) = Ref.aWs a
    ∧ m ((c.tc : Thread Cert.KernelIdeal.nD Cert.KernelIdeal.τ).loc Cert.KernelIdeal.main_arg5) = Ref.aBs a := by
  refine ⟨funext fun y => ?_, funext fun y => ?_, funext fun y => ?_, funext fun y => ?_, funext fun y => ?_, funext fun y => ?_⟩
  · exact (congrArg _ (eq_ix2 y)).trans (M.m0 (y 0) (y 1))
  · exact (congrArg _ (eq_ix2 y)).trans (M.m1 (y 0) (y 1))
  · exact (congrArg _ (eq_ix2 y)).trans (M.m2 (y 0) (y 1))
  · exact (congrArg _ (eq_ix2 y)).trans (M.m3 (y 0) (y 1))
  · exact (congrArg _ (eq_ix3 y)).trans (M.m4 (y 0) (y 1) (y 2))
  · exact (congrArg _ (eq_ix2 y)).trans (M.m5 (y 0) (y 1))

/-- At finite arguments the reference's results are the kernel's. -/
theorem results_eq (m : (ℓ : Loc Cert.KernelIdeal.nD Cert.KernelIdeal.τ Cert.KernelIdeal.sig) → Buf (Elt Ideal) ℓ) (a : Args) (c : Dev Cert.KernelIdeal.nD)
    (M : Ker.Mem m c a) :
    Cert.ReferenceIdeal.Read.val_main_v117 (F := Ideal) (Ref.aP a) (Ref.aG a) (Ref.aVg a) (Ref.aVb a) (Ref.aWs a) (Ref.aBs a) = Cert.KernelIdeal.Value.G6 m c
    ∧ Cert.ReferenceIdeal.Read.val_main_v73 (F := Ideal) (Ref.aP a) (Ref.aG a) (Ref.aVg a) (Ref.aVb a) = Cert.KernelIdeal.Value.G7 m c
    ∧ Cert.ReferenceIdeal.Read.val_main_v79 (F := Ideal) (Ref.aP a) (Ref.aG a) (Ref.aWs a) = Cert.KernelIdeal.Value.G8 m c
    ∧ Cert.ReferenceIdeal.Read.val_main_v76 (F := Ideal) (Ref.aP a) (Ref.aG a) (Ref.aWs a) = Cert.KernelIdeal.Value.G9 m c
    ∧ Cert.ReferenceIdeal.Read.val_main_v119 (F := Ideal) (Ref.aP a) (Ref.aG a) = Cert.KernelIdeal.Value.G10 m c := by
  refine ⟨?_, ?_, ?_, ?_, ?_⟩
  · funext y
    obtain ⟨i, j, rfl⟩ : ∃ (i : Fin 4096) (j : Fin 8192), y = ix2 i j := ⟨y 0, y 1, eq_ix2 y⟩
    refine Eq.trans ?_ (Ker.g6_at m a c M i j).symm
    by_cases h : j.val < 4096
    · rw [dif_pos h]
      exact Ref.v117_lo a i ⟨j.val, h⟩
    · rw [dif_neg h]
      have e : j = hi ⟨j.val - 4096, by omega⟩ := Fin.ext (by simp only [hi]; omega)
      exact (congrArg (fun j => Cert.ReferenceIdeal.Read.val_main_v117 (F := Ideal) (Ref.aP a) (Ref.aG a) (Ref.aVg a) (Ref.aVb a) (Ref.aWs a) (Ref.aBs a) (ix2 i j)) e).trans
        (Ref.v117_hi a i ⟨j.val - 4096, by omega⟩)
  · funext y
    obtain ⟨g, t, s, rfl⟩ : ∃ (g : Fin 16) (t s : Fin 128), y = ix3 g t s := ⟨y 0, y 1, y 2, eq_ix3 y⟩
    exact (Ref.v73_at a g t s).trans (Ker.g7_at m a c M g t s).symm
  · funext y
    obtain ⟨z, j, rfl⟩ : ∃ (z : Fin 1) (j : Fin 4096), y = ix2 z j := ⟨y 0, y 1, eq_ix2 y⟩
    exact (Ref.v79_at a z j).trans (Ker.g8_at m a c M z j).symm
  · funext y
    obtain ⟨z, j, rfl⟩ : ∃ (z : Fin 1) (j : Fin 4096), y = ix2 z j := ⟨y 0, y 1, eq_ix2 y⟩
    exact (Ref.v76_at a z j).trans (Ker.g9_at m a c M z j).symm
  · funext y
    obtain ⟨x, l, rfl⟩ : ∃ x l : Fin 128, y = ix2 x l := ⟨y 0, y 1, eq_ix2 y⟩
    exact (Ref.v119_at a x l).trans (Ker.g10_at m a c M x l).symm

/-- The kernel runs to its end and leaves its arguments. -/
theorem frame_p : Cert.quiescent_Kernel := fun m ρ _ => Cert.Kernel.Gen.frame m ρ
/-- So does the kernel over exact numbers, -/
theorem frame_pi : Cert.quiescent_KernelIdeal := fun m ρ _ => Cert.KernelIdeal.Gen.frame m ρ
/-- also at finite arguments, -/
theorem frame_pi_pre : Cert.quiescent_KernelIdeal_pre_finite := fun m ρ _ => Cert.KernelIdeal.Gen.frame m ρ
/-- and the reference, -/
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
/-- also at finite arguments. -/
theorem frame_ri_pre : Cert.quiescent_ReferenceIdeal_pre_finite := fun m ρ _ => frame_ri m ρ trivial

/-- The two named constants have the values that the table gives them. -/
theorem preserves : Cert.preserves_Kernel_KernelIdeal :=
  ⟨IdealRules.named_const.statement Cert.KernelIdeal.κ "cube" .f32 0x3D372713#32 ((8943 / 200000 : ℝ) : EReal) rfl,
    IdealRules.named_const.statement Cert.KernelIdeal.κ "cube3" .f32 0x3E095D4F#32 ((26829 / 200000 : ℝ) : EReal) rfl⟩

/-- At finite arguments the kernel's five results are the reference's. -/
theorem algebraic : Cert.algebraic_KernelIdeal_ReferenceIdeal_pre_finite := by
  intro m ρ m' ρ' hp hagree
  refine ⟨_, _, _, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨p0, p1, p2, p3, p4, p5⟩ := hp c
  obtain ⟨a0, a1, a2, a3, a4, a5⟩ := hagree c
  obtain ⟨h0, h1, h2, h3, h4, hr⟩ := h c
  rw [Cert.ReferenceIdeal.Read.val_main_v117_eq] at h0
  rw [Cert.ReferenceIdeal.Read.val_main_v73_eq] at h1
  rw [Cert.ReferenceIdeal.Read.val_main_v79_eq] at h2
  rw [Cert.ReferenceIdeal.Read.val_main_v76_eq] at h3
  rw [Cert.ReferenceIdeal.Read.val_main_v119_eq] at h4
  have M : Ker.Mem m c (args (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))) := by
    refine ⟨fun i j => finite_at _ _ _ p0 _, fun i j => finite_at _ _ _ p1 _, fun z j => ?_, fun z j => ?_, fun g t s => finite_at _ _ _ p4 _, fun g t => finite_at _ _ _ p5 _⟩
    · obtain rfl : z = 0 := Subsingleton.elim _ _
      exact finite_at _ _ _ p2 _
    · obtain rfl : z = 0 := Subsingleton.elim _ _
      exact finite_at _ _ _ p3 _
  generalize args _ _ _ _ _ _ = a at M
  obtain ⟨e0, e1, e2, e3, e4, e5⟩ := mem_eq m a c M
  obtain ⟨r0, r1, r2, r3, r4⟩ := results_eq m a c M
  have l0 : StableHlo.launchContents m' c (Proc.devRef .tc Cert.ReferenceIdeal.main_arg0) = Ref.aP a := a0.trans e0
  have l1 : StableHlo.launchContents m' c (Proc.devRef .tc Cert.ReferenceIdeal.main_arg1) = Ref.aG a := a1.trans e1
  have l2 : StableHlo.launchContents m' c (Proc.devRef .tc Cert.ReferenceIdeal.main_arg2) = Ref.aVg a := a2.trans e2
  have l3 : StableHlo.launchContents m' c (Proc.devRef .tc Cert.ReferenceIdeal.main_arg3) = Ref.aVb a := a3.trans e3
  have l4 : StableHlo.launchContents m' c (Proc.devRef .tc Cert.ReferenceIdeal.main_arg4) = Ref.aWs a := a4.trans e4
  have l5 : StableHlo.launchContents m' c (Proc.devRef .tc Cert.ReferenceIdeal.main_arg5) = Ref.aBs a := a5.trans e5
  rw [l0, l1, l2, l3, l4, l5] at h0
  rw [l0, l1, l2, l3] at h1
  rw [l0, l1, l4] at h2 h3
  rw [l0, l1] at h4
  exact ⟨h0.trans r0, h1.trans r1, h2.trans r2, h3.trans r3, h4.trans r4, hr⟩

end Sgu.Claims
end
-- ==== Proof.Prod.K2.lean ====
/- The gradient that the output product of the feed-forward block sends to its left operand. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Prod.K2

open Cert.Kernel2Ideal Cert.Kernel2Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference2Ideal.Read.val_main_v3 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference2Ideal.Read.val_main_v3, Cert.Reference2Ideal.Read.val_main_v2]
  blk_point [iblk, V, idx t]

/-- The result array after the run is the reference's. -/
theorem final (c : Dev nD) : (dats m 0 c).arrAt 2 (cfgs 0).N
    = Cert.Reference2Ideal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K2

end
-- ==== Proof.Prod.K3.lean ====
/- The weight gradient of the output product of the feed-forward block. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Prod.K3

open Cert.Kernel3Ideal Cert.Kernel3Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference3Ideal.Read.val_main_v6 (F := Ideal) (m ((c : Thread nD τ).loc main_arg0)) (m ((c : Thread nD τ).loc main_arg1)) (((cfg0.win 2).blk t).view.emb y) := by
  have ht : t.val < 22 := lt_of_lt_of_eq t.isLt N_0
  pointwise [k0_pay1, Cert.Reference3Ideal.Read.val_main_v6, Cert.Reference3Ideal.Read.val_main_v5, Cert.Reference3Ideal.Read.val_main_v4, Cert.Reference3Ideal.Read.val_main_v3]
  refine Fin.sum_fin_congr fun k => (mul_comm (G := EReal) _ _).trans ?_
  blk_point [iblk, V, idx t]

/-- The result array after the run is the reference's. -/
theorem final (c : Dev nD) : (dats m 0 c).arrAt 2 (cfgs 0).N
    = Cert.Reference3Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K3

end
-- ==== Proof.Prod.K4.lean ====
/- The weight gradient of the input product of the feed-forward block. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Prod.K4

open Cert.Kernel4Ideal Cert.Kernel4Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 8] ∧ win0_1.index t = ![t.val % 8 / 4, 0, t.val % 4] ∧ win0_2.index t = ![t.val % 8 / 2, t.val / 8, t.val % 2] :=
  (by decide +kernel : ∀ t : Fin grid0.N, _)

/-- The two halves of the gradient laid side by side, read at an index. -/
theorem cols (x1 : (⟨S2x4096x5632, .bf16⟩ : BufTy).Contents (Elt Ideal)) (i : Cert.Reference4Ideal.S4096x11264.Idx) (j : S2x4096x5632.Idx)
    (h0 : (j 0 : ℕ) = i 1 / 5632) (h1 : (j 1 : ℕ) = i 0) (h2 : (j 2 : ℕ) = i 1 % 5632) :
    Cert.Reference4Ideal.Read.val_main_v15 (F := Ideal) x1 i = x1 j := by
  pointwise [Cert.Reference4Ideal.Read.val_main_v15, Cert.Reference4Ideal.Read.val_main_v14, Cert.Reference4Ideal.Read.val_main_v13, Cert.Reference4Ideal.Read.val_main_v12, Cert.Reference4Ideal.Read.val_main_v11, Cert.Reference4Ideal.Read.val_main_v10, Cert.Reference4Ideal.Read.val_main_v9, Cert.Reference4Ideal.Read.val_main_v8, Cert.Reference4Ideal.Read.val_main_cst_0, Cert.Reference4Ideal.Read.val_main_cst_1]
  have e : ∀ j' : S2x4096x5632.Idx, (j' 0 : ℕ) = j 0 → (j' 1 : ℕ) = j 1 → (j' 2 : ℕ) = j 2 → x1 j' = x1 j := fun j' _ _ _ => by blk_ext
  have hl : (i 1 : ℕ) < 11264 := (i 1).isLt
  by_cases h : (i 1 : ℕ) < 5632
  · rw [dif_neg (by omega), dif_pos h, zero_add]
    exact e _ (show (0 : ℕ) = j 0 by omega) (show (i 0 : ℕ) = j 1 by omega) (show (i 1 : ℕ) = j 2 by omega)
  · rw [dif_pos (by omega), dif_neg h, add_zero]
    exact e _ (show (1 : ℕ) = j 0 by omega) (show (i 0 : ℕ) = j 1 by omega) (show (i 1 : ℕ) - 5632 = j 2 by omega)

/-- The reference's product, read at an index. -/
theorem ref (x0 : (⟨S4096x2048, .bf16⟩ : BufTy).Contents (Elt Ideal)) (x1 : (⟨S2x4096x5632, .bf16⟩ : BufTy).Contents (Elt Ideal)) (i : S4x2048x2816.Idx) (h : (i 0 : ℕ) * 2816 + i 2 < 11264) :
    Cert.Reference4Ideal.Read.val_main_v27 (F := Ideal) x0 x1 i
      = ∑ k : Fin 4096, Cert.Reference4Ideal.Read.val_main_v15 (F := Ideal) x1 (ix2 k ⟨(i 0 : ℕ) * 2816 + i 2, h⟩) * x0 (ix2 k (i 1)) := by
  pointwise [Cert.Reference4Ideal.Read.val_main_v27, Cert.Reference4Ideal.Read.val_main_v26, Cert.Reference4Ideal.Read.val_main_v25, Cert.Reference4Ideal.Read.val_main_v24, Cert.Reference4Ideal.Read.val_main_v23, Cert.Reference4Ideal.Read.val_main_v22, Cert.Reference4Ideal.Read.val_main_v21, Cert.Reference4Ideal.Read.val_main_v20, Cert.Reference4Ideal.Read.val_main_v19, Cert.Reference4Ideal.Read.val_main_v18, Cert.Reference4Ideal.Read.val_main_v17, Cert.Reference4Ideal.Read.val_main_v16]
  have hl : (i 0 : ℕ) < 4 := (i 0).isLt
  have e : ∀ (a : Fin 11264) (k : Fin 4096), (a : ℕ) = (i 0 : ℕ) * 2816 + i 2 →
      Cert.Reference4Ideal.Read.val_main_v15 (F := Ideal) x1 (ix2 k a) * Cert.Reference4Ideal.Read.val_main_v1 (F := Ideal) x0 (ix2 k (i 1))
        = Cert.Reference4Ideal.Read.val_main_v15 (F := Ideal) x1 (ix2 k ⟨(i 0 : ℕ) * 2816 + i 2, h⟩) * x0 (ix2 k (i 1)) := by
    rintro ⟨a, ha⟩ k rfl
    pointwise [Cert.Reference4Ideal.Read.val_main_v1]
  split_ifs <;> exact Fin.sum_fin_congr fun k => e _ k (by dsimp only; omega)

/-- What a grid point stores is the reference's product there. -/
theorem point (c : Dev nD) (t : Fin cfg0.N) (y : S1x512x1408.Idx) (i : S4x2048x2816.Idx)
    (h0 : (i 0 : ℕ) = t.val % 8 / 2) (h1 : (i 1 : ℕ) = t.val / 8 * 512 + y 1) (h2 : (i 2 : ℕ) = t.val % 2 * 1408 + y 2) :
    k0_pay1 (F := Ideal) (iblk m c 0 t) (iblk m c 1 t) y
    = Cert.Reference4Ideal.Read.val_main_v27 (F := Ideal) (m ((c : Thread nD τ).loc main_arg0)) (m ((c : Thread nD τ).loc main_arg1)) i := by
  have ht : t.val < 32 := lt_of_lt_of_eq t.isLt N_0
  rw [ref _ _ _ (by have : (y 2 : ℕ) < 1408 := (y 2).isLt; omega)]
  pointwise [k0_pay1]
  refine Fin.sum_fin_congr fun k => (mul_comm (G := EReal) _ _).trans ?_
  rw [cols _ _ (ix3 ⟨t.val % 8 / 4, by omega⟩ k ⟨t.val % 4 * 1408 + y 2, by have : (y 2 : ℕ) < 1408 := (y 2).isLt; omega⟩) ?_ ?_ ?_]
  · blk_point [iblk, V, idx t]
  all_goals (have : (y 2 : ℕ) < 1408 := (y 2).isLt; blk_simp; try (dsimp only; omega))

/-- The result array after the run is the reference's. -/
theorem final (c : Dev nD) : (dats m 0 c).arrAt 2 (cfgs 0).N
    = Cert.Reference4Ideal.Read.val_main_v27 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ ?_ <;> blk_simp [idx t] <;> omega

end Prod.K4

end
-- ==== Proof.Prod.K5.lean ====
/- The gradient that the input product of the feed-forward block sends to its left operand, accumulated over
   four blocks of the contraction. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Prod.K5

open Cert.Kernel5Ideal Cert.Kernel5Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val % 4 / 2, t.val / 8, t.val % 2] ∧ win0_1.index t = ![t.val % 4, 0, t.val % 8 / 4, 0] ∧ win0_2.index t = ![t.val / 8, t.val % 8 / 4] :=
  (by decide +kernel : ∀ t : Fin grid0.N, _)

/-- The two halves of the gradient laid side by side, read at an index. -/
theorem cols (x1 : (⟨S2x4096x5632, .bf16⟩ : BufTy).Contents (Elt Ideal)) (i : Cert.Reference5Ideal.S4096x11264.Idx) (j : S2x4096x5632.Idx)
    (h0 : (j 0 : ℕ) = i 1 / 5632) (h1 : (j 1 : ℕ) = i 0) (h2 : (j 2 : ℕ) = i 1 % 5632) :
    Cert.Reference5Ideal.Read.val_main_v14 (F := Ideal) x1 i = x1 j := by
  pointwise [Cert.Reference5Ideal.Read.val_main_v14, Cert.Reference5Ideal.Read.val_main_v13, Cert.Reference5Ideal.Read.val_main_v12, Cert.Reference5Ideal.Read.val_main_v11, Cert.Reference5Ideal.Read.val_main_v10, Cert.Reference5Ideal.Read.val_main_v9, Cert.Reference5Ideal.Read.val_main_v8, Cert.Reference5Ideal.Read.val_main_v7, Cert.Reference5Ideal.Read.val_main_cst_0, Cert.Reference5Ideal.Read.val_main_cst_1]
  have e : ∀ j' : S2x4096x5632.Idx, (j' 0 : ℕ) = j 0 → (j' 1 : ℕ) = j 1 → (j' 2 : ℕ) = j 2 → x1 j' = x1 j := fun j' _ _ _ => by blk_ext
  have hl : (i 1 : ℕ) < 11264 := (i 1).isLt
  by_cases h : (i 1 : ℕ) < 5632
  · rw [dif_neg (by omega), dif_pos h, zero_add]
    exact e _ (show (0 : ℕ) = j 0 by omega) (show (i 0 : ℕ) = j 1 by omega) (show (i 1 : ℕ) = j 2 by omega)
  · rw [dif_pos (by omega), dif_neg h, add_zero]
    exact e _ (show (1 : ℕ) = j 0 by omega) (show (i 0 : ℕ) = j 1 by omega) (show (i 1 : ℕ) - 5632 = j 2 by omega)

/-- The array of the weight's shards, read at an index. -/
theorem shard (c : Dev nD) (y : S4x1x2048x2816.Idx) (j : S2048x11264.Idx) (h0 : (j 0 : ℕ) = y 2) (h1 : (j 1 : ℕ) = y 0 * 2816 + y 3) :
    V m c main_v3 y = m ((c : Thread nD τ).loc main_arg1) j := by
  entry_read
  pointwise
  blk_ext

/-- The block of the weight's shards that a grid point takes. -/
theorem part (c : Dev nD) (t : Fin cfg0.N) (y : S1x1x1024x2816.Idx) (j : S2048x11264.Idx)
    (h0 : (j 0 : ℕ) = t.val % 8 / 4 * 1024 + y 2) (h1 : (j 1 : ℕ) = t.val % 4 * 2816 + y 3) :
    iblk m c 1 t y = m ((c : Thread nD τ).loc main_arg1) j := by
  refine shard m c _ _ ?_ ?_ <;> blk_simp [idx t] <;> omega

/-- The reference's product, read at an index. -/
theorem ref (x0 : (⟨S2x4096x5632, .bf16⟩ : BufTy).Contents (Elt Ideal)) (x1 : (⟨S2048x11264, .f32⟩ : BufTy).Contents (Elt Ideal)) (i : S4096x2048.Idx) :
    Cert.Reference5Ideal.Read.val_main_v15 (F := Ideal) x0 x1 i
      = ∑ l : Fin 11264, Cert.Reference5Ideal.Read.val_main_v14 (F := Ideal) x0 (ix2 (i 0) l) * x1 (ix2 (i 1) l) := by
  pointwise [Cert.Reference5Ideal.Read.val_main_v15]

/-- The product of two blocks, read at an index. -/
theorem pay (x0 : Vec Ideal S1x1024x2816 .bf16) (x1 : Vec Ideal S1x1x1024x2816 .bf16) (j : S1024x1024.Idx) :
    k0_pay2 (F := Ideal) x0 x1 j = ∑ k : Fin 2816, x0 (ix3 0 (j 0) k) * x1 (ix4 0 0 (j 1) k) := by
  pointwise [k0_pay2, k0_pay1]

/-- What is added to the accumulator at a later point. -/
theorem acc (x0 : Vec Ideal S1x1024x2816 .bf16) (x1 : Vec Ideal S1x1x1024x2816 .bf16) (a : Vec Ideal S1024x1024 .f32) (j : S1024x1024.Idx) :
    k0_pay3 (F := Ideal) x0 x1 a j = a j + k0_pay2 (F := Ideal) x0 x1 j := by
  pointwise [k0_pay3, k0_pay2]

/-- At the last point of a run the result block holds what the accumulator holds. -/
theorem out_eq (c : Dev nD) (t : Fin cfg0.N) (h : t.val % 4 = 3) (j) :
    (outsAt0 m c t.val t.isLt).1 j = (outsAt0 m c t.val t.isLt).2 j := by
  rw [outsAt0_C m c t (by omega) (by omega) h]; frame_out

/-- The accumulator at the first point of a run. -/
theorem first (c : Dev nD) (t : Fin cfg0.N) (h : t.val % 4 = 0) (j) :
    (outsAt0 m c t.val t.isLt).2 j = k0_pay2 (F := Ideal) (iblk m c 0 t) (iblk m c 1 t) j := by
  rw [outsAt0_A m c t h (by omega) (by omega)]; frame_out

/-- The accumulator at a later point of a run. -/
theorem later (c : Dev nD) (t : Fin cfg0.N) (h : ¬ t.val % 4 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc]
  by_cases h3 : t.val % 4 = 3
  · rw [outsAt0_C m c t h (by omega) h3]; frame_out; exact congrArg (fun a => k0_pay3 (F := Ideal) (iblk m c 0 t) (iblk m c 1 t) a j) ((Memref.isWhole_whole _).read_unread _)
  · rw [outsAt0_B m c t h (by omega) h3]; frame_out; exact congrArg (fun a => k0_pay3 (F := Ideal) (iblk m c 0 t) (iblk m c 1 t) a j) ((Memref.isWhole_whole _).read_unread _)

/-- The result array after the run is the reference's. -/
theorem final (c : Dev nD) : (dats m 0 c).arrAt 2 (cfgs 0).N
    = Cert.Reference5Ideal.Read.val_main_v15 (F := Ideal) (m ((c : Thread nD τ).loc main_arg0)) (m ((c : Thread nD τ).loc main_arg1)) := by
  refine (dats m 0 c).arrAt_eq_of_covers 2 _ (by decide +kernel) fun t hf y => ?_
  have hf := (flush0_2 t).mp hf
  have ht : t.val < 32 := lt_of_lt_of_eq t.isLt N_0
  blk_simp
  rw [after0_2, out_eq m c t hf]
  rw [Pipeline.eq_sum_fin_of_reset_step_apply_of_flush (fun n h => (outsAt0 m c n h).2) 4 (fun _ => 0)
    (fun t j => k0_pay2 (F := Ideal) (iblk m c 0 t) (iblk m c 1 t) j)
    (fun t h j => by rw [zero_add]; exact first m c t h j) (fun t h j => later m c t h j) t hf _, zero_add]
  rw [ref]
  refine (Fin.sum_fin_congr fun s => pay _ _ _).trans ?_
  refine Fin.sum_mul_add_congr fun s k hl => ?_
  have hs := s.isLt
  have hr := Pipeline.run_point_lt_of_flush t hf s
  have hy1 : (y 1 : ℕ) < 1024 := (y 1).isLt
  have he : ((((win0_2.blk t).view.emb y) 1 : Fin _) : ℕ) = t.val % 8 / 4 * 1024 + y 1 := by blk_simp [idx t]
  have hb := part m c ⟨_, hr⟩ (ix4 0 0 (y 1) k) (ix2 ((win0_2.blk t).view.emb y 1) ⟨(s : ℕ) * 2816 + k, hl⟩)
    (he.trans (show t.val % 8 / 4 * 1024 + (y 1 : ℕ) = (4 * (t.val / 4) + (s : ℕ)) % 8 / 4 * 1024 + y 1 by omega))
    (show (s : ℕ) * 2816 + k = (4 * (t.val / 4) + (s : ℕ)) % 4 * 2816 + k by omega)
  rw [cols _ (ix2 ((win0_2.blk t).view.emb y 0) ⟨(s : ℕ) * 2816 + k, hl⟩) (ix3 ⟨(s : ℕ) / 2, by omega⟩ ((win0_2.blk t).view.emb y 0) ⟨(s : ℕ) % 2 * 2816 + k, by omega⟩)
    (show (s : ℕ) / 2 = ((s : ℕ) * 2816 + k) / 5632 by omega) rfl (show (s : ℕ) % 2 * 2816 + k = ((s : ℕ) * 2816 + k) % 5632 by omega)]
  refine congrArg₂ (fun a b : EReal => a * b) ?_ hb
  blk_point [iblk, V, idx t, idx ⟨_, hr⟩]

end Prod.K5

end
-- ==== Proof.Prod.K6.lean ====
/- The input product of the feed-forward block. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Prod.K6

open Cert.Kernel6Ideal Cert.Kernel6Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 8, 0] ∧ win0_1.index t = ![t.val % 8 / 2, 0, 0, t.val % 2] ∧ win0_2.index t = ![t.val % 8 / 4, t.val / 8, t.val % 4] :=
  (by decide +kernel : ∀ t : Fin grid0.N, _)

/-- The array of the weight's shards, read at an index. -/
theorem shard (c : Dev nD) (y : S4x1x2048x2816.Idx) (j : S2048x11264.Idx) (h0 : (j 0 : ℕ) = y 2) (h1 : (j 1 : ℕ) = y 0 * 2816 + y 3) :
    V m c main_v3 y = m ((c : Thread nD τ).loc main_arg1) j := by
  entry_read
  pointwise
  blk_ext

/-- The block of the weight's shards that a grid point takes. -/
theorem part (c : Dev nD) (t : Fin cfg0.N) (y : S1x1x2048x1408.Idx) (j : S2048x11264.Idx)
    (h0 : (j 0 : ℕ) = y 2) (h1 : (j 1 : ℕ) = t.val % 8 * 1408 + y 3) :
    iblk m c 1 t y = m ((c : Thread nD τ).loc main_arg1) j := by
  refine shard m c _ _ ?_ ?_ <;> blk_simp [idx t] <;> omega

/-- What a grid point stores is the reference's product there. -/
theorem point (c : Dev nD) (t : Fin cfg0.N) (y : S1x1024x1408.Idx) (i : S2x4096x5632.Idx)
    (h0 : (i 0 : ℕ) = t.val % 8 / 4) (h1 : (i 1 : ℕ) = t.val / 8 * 1024 + y 1) (h2 : (i 2 : ℕ) = t.val % 4 * 1408 + y 2) :
    k0_pay1 (F := Ideal) (iblk m c 0 t) (iblk m c 1 t) y
    = Cert.Reference6Ideal.Read.val_main_v6 (F := Ideal) (m ((c : Thread nD τ).loc main_arg0)) (m ((c : Thread nD τ).loc main_arg1)) i := by
  have ht : t.val < 32 := lt_of_lt_of_eq t.isLt N_0
  have hb := part m c t
  generalize iblk m c 1 t = B at hb ⊢
  pointwise [k0_pay1, Cert.Reference6Ideal.Read.val_main_v6, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_v0]
  blk_point [iblk, V, idx t]
  all_goals refine (hb _ _ ?_ ?_).symm <;> blk_simp <;> (try dsimp only) <;> omega

/-- The result array after the run is the reference's. -/
theorem final (c : Dev nD) : (dats m 0 c).arrAt 2 (cfgs 0).N
    = Cert.Reference6Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ ?_ <;> blk_simp [idx t] <;> omega

end Prod.K6

end
-- ==== Proof.Prod.K7.lean ====
/- The output product of the feed-forward block, accumulated over four blocks of the contraction. -/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Prod.K7

open Cert.Kernel7Ideal Cert.Kernel7Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, t.val % 4] ∧ win0_1.index t = ![t.val % 4, 0, 0, 0] ∧ win0_2.index t = ![t.val / 4, 0] :=
  (by decide +kernel : ∀ t : Fin grid0.N, _)

/-- The reference's product, read at an index. -/
theorem ref (x0 : (⟨S4096x5632, .bf16⟩ : BufTy).Contents (Elt Ideal)) (x1 : (⟨S5632x2048, .f32⟩ : BufTy).Contents (Elt Ideal)) (i : S4096x2048.Idx) :
    Cert.Reference7Ideal.Read.val_main_v1 (F := Ideal) x0 x1 i = ∑ l : Fin 5632, x0 (ix2 (i 0) l) * x1 (ix2 l (i 1)) := by
  pointwise [Cert.Reference7Ideal.Read.val_main_v1, Cert.Reference7Ideal.Read.val_main_v0]

/-- The product of two blocks, read at an index. -/
theorem pay (x0 : Vec Ideal S1024x1408 .bf16) (x1 : Vec Ideal S1x1x1408x2048 .bf16) (j : S1024x2048.Idx) :
    k0_pay2 (F := Ideal) x0 x1 j = ∑ k : Fin 1408, x0 (ix2 (j 0) k) * x1 (ix4 0 0 k (j 1)) := by
  pointwise [k0_pay2, k0_pay1]

/-- What is added to the accumulator at a later point. -/
theorem acc (x0 : Vec Ideal S1024x1408 .bf16) (x1 : Vec Ideal S1x1x1408x2048 .bf16) (a : Vec Ideal S1024x2048 .f32) (j : S1024x2048.Idx) :
    k0_pay3 (F := Ideal) x0 x1 a j = a j + k0_pay2 (F := Ideal) x0 x1 j := by
  pointwise [k0_pay3, k0_pay2]

/-- At the last point of a run the result block holds what the accumulator holds. -/
theorem out_eq (c : Dev nD) (t : Fin cfg0.N) (h : t.val % 4 = 3) (j) :
    (outsAt0 m c t.val t.isLt).1 j = (outsAt0 m c t.val t.isLt).2 j := by
  rw [outsAt0_C m c t (by omega) (by omega) h]; frame_out

/-- The accumulator at the first point of a run. -/
theorem first (c : Dev nD) (t : Fin cfg0.N) (h : t.val % 4 = 0) (j) :
    (outsAt0 m c t.val t.isLt).2 j = k0_pay2 (F := Ideal) (iblk m c 0 t) (iblk m c 1 t) j := by
  rw [outsAt0_A m c t h (by omega) (by omega)]; frame_out

/-- The accumulator at a later point of a run. -/
theorem later (c : Dev nD) (t : Fin cfg0.N) (h : ¬ t.val % 4 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc]
  by_cases h3 : t.val % 4 = 3
  · rw [outsAt0_C m c t h (by omega) h3]; frame_out; exact congrArg (fun a => k0_pay3 (F := Ideal) (iblk m c 0 t) (iblk m c 1 t) a j) ((Memref.isWhole_whole _).read_unread _)
  · rw [outsAt0_B m c t h (by omega) h3]; frame_out; exact congrArg (fun a => k0_pay3 (F := Ideal) (iblk m c 0 t) (iblk m c 1 t) a j) ((Memref.isWhole_whole _).read_unread _)

/-- The result array after the run is the reference's. -/
theorem final (c : Dev nD) : (dats m 0 c).arrAt 2 (cfgs 0).N
    = Cert.Reference7Ideal.Read.val_main_v1 (F := Ideal) (m ((c : Thread nD τ).loc main_arg0)) (m ((c : Thread nD τ).loc main_arg1)) := by
  refine (dats m 0 c).arrAt_eq_of_covers 2 _ (by decide +kernel) fun t hf y => ?_
  have hf := (flush0_2 t).mp hf
  have ht : t.val < 16 := lt_of_lt_of_eq t.isLt N_0
  blk_simp
  rw [after0_2, out_eq m c t hf]
  rw [Pipeline.eq_sum_fin_of_reset_step_apply_of_flush (fun n h => (outsAt0 m c n h).2) 4 (fun _ => 0)
    (fun t j => k0_pay2 (F := Ideal) (iblk m c 0 t) (iblk m c 1 t) j)
    (fun t h j => by rw [zero_add]; exact first m c t h j) (fun t h j => later m c t h j) t hf _, zero_add]
  rw [ref]
  refine (Fin.sum_fin_congr fun s => pay _ _ _).trans ?_
  refine Fin.sum_mul_add_congr fun s k hl => ?_
  blk_point [iblk, V, idx t, idx ⟨_, Pipeline.run_point_lt_of_flush t hf s⟩]

end Prod.K7

end
-- ==== Proof.Prod.K8.lean ====
/- The output product of the recurrence and of the gating unit, accumulated over four blocks of the contraction. -/
module

public import proofs.«01_k».proof.Proof.Gen.Kernel8Ideal.Value
public import proofs.«01_k».proof.Proof.Gen.Reference8Ideal.Read
public import Idealize.ShloMosaic.Lib.Pipeline.ValueKit

@[expose] public section

set_option maxRecDepth 16384

noncomputable section

namespace Prod.K8

open Cert.Kernel8Ideal Cert.Kernel8Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 8, t.val % 4] ∧ win0_1.index t = ![t.val % 4, 0, 0, t.val % 8 / 4] ∧ win0_2.index t = ![t.val / 8, t.val % 8 / 4] :=
  (by decide +kernel : ∀ t : Fin grid0.N, _)

/-- The reference's product, read at an index. -/
theorem ref (x0 : (⟨S4096x4096, .bf16⟩ : BufTy).Contents (Elt Ideal)) (x1 : (⟨S4096x2048, .f32⟩ : BufTy).Contents (Elt Ideal)) (i : S4096x2048.Idx) :
    Cert.Reference8Ideal.Read.val_main_v1 (F := Ideal) x0 x1 i = ∑ l : Fin 4096, x0 (ix2 (i 0) l) * x1 (ix2 l (i 1)) := by
  pointwise [Cert.Reference8Ideal.Read.val_main_v1, Cert.Reference8Ideal.Read.val_main_v0]

/-- The product of two blocks, read at an index. -/
theorem pay (x0 : Vec Ideal S1024x1024 .bf16) (x1 : Vec Ideal S1x1x1024x1024 .bf16) (j : S1024x1024.Idx) :
    k0_pay2 (F := Ideal) x0 x1 j = ∑ k : Fin 1024, x0 (ix2 (j 0) k) * x1 (ix4 0 0 k (j 1)) := by
  pointwise [k0_pay2, k0_pay1]

/-- What is added to the accumulator at a later point. -/
theorem acc (x0 : Vec Ideal S1024x1024 .bf16) (x1 : Vec Ideal S1x1x1024x1024 .bf16) (a : Vec Ideal S1024x1024 .f32) (j : S1024x1024.Idx) :
    k0_pay3 (F := Ideal) x0 x1 a j = a j + k0_pay2 (F := Ideal) x0 x1 j := by
  pointwise [k0_pay3, k0_pay2]

/-- At the last point of a run the result block holds what the accumulator holds. -/
theorem out_eq (c : Dev nD) (t : Fin cfg0.N) (h : t.val % 4 = 3) (j) :
    (outsAt0 m c t.val t.isLt).1 j = (outsAt0 m c t.val t.isLt).2 j := by
  rw [outsAt0_C m c t (by omega) (by omega) h]; frame_out

/-- The accumulator at the first point of a run. -/
theorem first (c : Dev nD) (t : Fin cfg0.N) (h : t.val % 4 = 0) (j) :
    (outsAt0 m c t.val t.isLt).2 j = k0_pay2 (F := Ideal) (iblk m c 0 t) (iblk m c 1 t) j := by
  rw [outsAt0_A m c t h (by omega) (by omega)]; frame_out

/-- The accumulator at a later point of a run. -/
theorem later (c : Dev nD) (t : Fin cfg0.N) (h : ¬ t.val % 4 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc]
  by_cases h3 : t.val % 4 = 3
  · rw [outsAt0_C m c t h (by omega) h3]; frame_out; exact congrArg (fun a => k0_pay3 (F := Ideal) (iblk m c 0 t) (iblk m c 1 t) a j) ((Memref.isWhole_whole _).read_unread _)
  · rw [outsAt0_B m c t h (by omega) h3]; frame_out; exact congrArg (fun a => k0_pay3 (F := Ideal) (iblk m c 0 t) (iblk m c 1 t) a j) ((Memref.isWhole_whole _).read_unread _)

/-- The result array after the run is the reference's. -/
theorem final (c : Dev nD) : (dats m 0 c).arrAt 2 (cfgs 0).N
    = Cert.Reference8Ideal.Read.val_main_v1 (F := Ideal) (m ((c : Thread nD τ).loc main_arg0)) (m ((c : Thread nD τ).loc main_arg1)) := by
  refine (dats m 0 c).arrAt_eq_of_covers 2 _ (by decide +kernel) fun t hf y => ?_
  have hf := (flush0_2 t).mp hf
  have ht : t.val < 32 := lt_of_lt_of_eq t.isLt N_0
  blk_simp
  rw [after0_2, out_eq m c t hf]
  rw [Pipeline.eq_sum_fin_of_reset_step_apply_of_flush (fun n h => (outsAt0 m c n h).2) 4 (fun _ => 0)
    (fun t j => k0_pay2 (F := Ideal) (iblk m c 0 t) (iblk m c 1 t) j)
    (fun t h j => by rw [zero_add]; exact first m c t h j) (fun t h j => later m c t h j) t hf _, zero_add]
  rw [ref]
  refine (Fin.sum_fin_congr fun s => pay _ _ _).trans ?_
  refine Fin.sum_mul_add_congr fun s k hl => ?_
  blk_point [iblk, V, idx t, idx ⟨_, Pipeline.run_point_lt_of_flush t hf s⟩]

end Prod.K8

end
-- ==== Proof.Prod.K9.lean ====
/- The gradient that the output product of the recurrence and of the gating unit sends to its left operand. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Prod.K9

open Cert.Kernel9Ideal Cert.Kernel9Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference9Ideal.Read.val_main_v3 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference9Ideal.Read.val_main_v3, Cert.Reference9Ideal.Read.val_main_v2]
  blk_point [iblk, V, idx t]

/-- The result array after the run is the reference's. -/
theorem final (c : Dev nD) : (dats m 0 c).arrAt 2 (cfgs 0).N
    = Cert.Reference9Ideal.Read.val_main_v3 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K9

end
-- ==== Proof.Prod.K10.lean ====
/- The weight gradient of the output product of the recurrence and of the gating unit. -/
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Prod.K10

open Cert.Kernel10Ideal Cert.Kernel10Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference10Ideal.Read.val_main_v6 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference10Ideal.Read.val_main_v6, Cert.Reference10Ideal.Read.val_main_v5, Cert.Reference10Ideal.Read.val_main_v4, Cert.Reference10Ideal.Read.val_main_v3]
  refine Fin.sum_fin_congr fun k => (mul_comm (G := EReal) _ _).trans ?_
  blk_point [iblk, V, idx t]

/-- The result array after the run is the reference's. -/
theorem final (c : Dev nD) : (dats m 0 c).arrAt 2 (cfgs 0).N
    = Cert.Reference10Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K10

end
-- ==== Proof.Prod.K11.lean ====
/- The input product of the gating unit. -/
module

public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Prod.K11

open Cert.Kernel11Ideal Cert.Kernel11Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 8, 0] ∧ win0_1.index t = ![t.val % 8 / 2, 0, 0, t.val % 2] ∧ win0_2.index t = ![t.val / 8, t.val % 8] :=
  (by decide +kernel : ∀ t : Fin grid0.N, _)

/-- The array of the weight's shards, read at an index. -/
theorem shard (c : Dev nD) (y : S4x1x2048x2048.Idx) (j : S2048x8192.Idx) (h0 : (j 0 : ℕ) = y 2) (h1 : (j 1 : ℕ) = y 0 * 2048 + y 3) :
    V m c main_v3 y = m ((c : Thread nD τ).loc main_arg1) j := by
  entry_read
  pointwise
  blk_ext

/-- The block of the weight's shards that a grid point takes. -/
theorem part (c : Dev nD) (t : Fin cfg0.N) (y : S1x1x2048x1024.Idx) (j : S2048x8192.Idx)
    (h0 : (j 0 : ℕ) = y 2) (h1 : (j 1 : ℕ) = t.val % 8 * 1024 + y 3) :
    iblk m c 1 t y = m ((c : Thread nD τ).loc main_arg1) j := by
  refine shard m c _ _ ?_ ?_ <;> blk_simp [idx t] <;> omega

/-- What a grid point stores is the reference's product there. -/
theorem point (c : Dev nD) (t : Fin cfg0.N) (y : S1024x1024.Idx) (i : S4096x8192.Idx)
    (h0 : (i 0 : ℕ) = t.val / 8 * 1024 + y 0) (h1 : (i 1 : ℕ) = t.val % 8 * 1024 + y 1) :
    k0_pay1 (F := Ideal) (iblk m c 0 t) (iblk m c 1 t) y
    = Cert.Reference11Ideal.Read.val_main_v1 (F := Ideal) (m ((c : Thread nD τ).loc main_arg0)) (m ((c : Thread nD τ).loc main_arg1)) i := by
  have ht : t.val < 32 := lt_of_lt_of_eq t.isLt N_0
  have hb := part m c t
  generalize iblk m c 1 t = B at hb ⊢
  pointwise [k0_pay1, Cert.Reference11Ideal.Read.val_main_v1, Cert.Reference11Ideal.Read.val_main_v0]
  blk_point [iblk, V, idx t]
  all_goals refine hb _ _ ?_ ?_ <;> blk_simp <;> (try dsimp only) <;> omega

/-- The result array after the run is the reference's. -/
theorem final (c : Dev nD) : (dats m 0 c).arrAt 2 (cfgs 0).N
    = Cert.Reference11Ideal.Read.val_main_v1 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ <;> blk_simp [idx t] <;> omega

end Prod.K11

end
-- ==== Proof.Prod.K12.lean ====
/- The gradient that the input product of the gating unit sends to its left operand, accumulated over
   four blocks of the contraction. -/
module

public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Prod.K12

open Cert.Kernel12Ideal Cert.Kernel12Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 8, t.val % 4] ∧ win0_1.index t = ![t.val % 4, 0, t.val % 8 / 4, 0] ∧ win0_2.index t = ![t.val / 8, t.val % 8 / 4] :=
  (by decide +kernel : ∀ t : Fin grid0.N, _)

/-- The array of the weight's shards, read at an index. -/
theorem shard (c : Dev nD) (y : S4x1x2048x2048.Idx) (j : S2048x8192.Idx) (h0 : (j 0 : ℕ) = y 2) (h1 : (j 1 : ℕ) = y 0 * 2048 + y 3) :
    V m c main_v3 y = m ((c : Thread nD τ).loc main_arg1) j := by
  entry_read
  pointwise
  blk_ext

/-- The block of the weight's shards that a grid point takes. -/
theorem part (c : Dev nD) (t : Fin cfg0.N) (y : S1x1x1024x2048.Idx) (j : S2048x8192.Idx)
    (h0 : (j 0 : ℕ) = t.val % 8 / 4 * 1024 + y 2) (h1 : (j 1 : ℕ) = t.val % 4 * 2048 + y 3) :
    iblk m c 1 t y = m ((c : Thread nD τ).loc main_arg1) j := by
  refine shard m c _ _ ?_ ?_ <;> blk_simp [idx t] <;> omega

/-- The reference's product, read at an index. -/
theorem ref (x0 : (⟨S4096x8192, .bf16⟩ : BufTy).Contents (Elt Ideal)) (x1 : (⟨S2048x8192, .f32⟩ : BufTy).Contents (Elt Ideal)) (i : S4096x2048.Idx) :
    Cert.Reference12Ideal.Read.val_main_v3 (F := Ideal) x0 x1 i
      = ∑ l : Fin 8192, x0 (ix2 (i 0) l) * x1 (ix2 (i 1) l) := by
  pointwise [Cert.Reference12Ideal.Read.val_main_v3, Cert.Reference12Ideal.Read.val_main_v2]

/-- The product of two blocks, read at an index. -/
theorem pay (x0 : Vec Ideal S1024x2048 .bf16) (x1 : Vec Ideal S1x1x1024x2048 .bf16) (j : S1024x1024.Idx) :
    k0_pay2 (F := Ideal) x0 x1 j = ∑ k : Fin 2048, x0 (ix2 (j 0) k) * x1 (ix4 0 0 (j 1) k) := by
  pointwise [k0_pay2, k0_pay1]

/-- What is added to the accumulator at a later point. -/
theorem acc (x0 : Vec Ideal S1024x2048 .bf16) (x1 : Vec Ideal S1x1x1024x2048 .bf16) (a : Vec Ideal S1024x1024 .f32) (j : S1024x1024.Idx) :
    k0_pay3 (F := Ideal) x0 x1 a j = a j + k0_pay2 (F := Ideal) x0 x1 j := by
  pointwise [k0_pay3, k0_pay2]

/-- At the last point of a run the result block holds what the accumulator holds. -/
theorem out_eq (c : Dev nD) (t : Fin cfg0.N) (h : t.val % 4 = 3) (j) :
    (outsAt0 m c t.val t.isLt).1 j = (outsAt0 m c t.val t.isLt).2 j := by
  rw [outsAt0_C m c t (by omega) (by omega) h]; frame_out

/-- The accumulator at the first point of a run. -/
theorem first (c : Dev nD) (t : Fin cfg0.N) (h : t.val % 4 = 0) (j) :
    (outsAt0 m c t.val t.isLt).2 j = k0_pay2 (F := Ideal) (iblk m c 0 t) (iblk m c 1 t) j := by
  rw [outsAt0_A m c t h (by omega) (by omega)]; frame_out

/-- The accumulator at a later point of a run. -/
theorem later (c : Dev nD) (t : Fin cfg0.N) (h : ¬ t.val % 4 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc]
  by_cases h3 : t.val % 4 = 3
  · rw [outsAt0_C m c t h (by omega) h3]; frame_out; exact congrArg (fun a => k0_pay3 (F := Ideal) (iblk m c 0 t) (iblk m c 1 t) a j) ((Memref.isWhole_whole _).read_unread _)
  · rw [outsAt0_B m c t h (by omega) h3]; frame_out; exact congrArg (fun a => k0_pay3 (F := Ideal) (iblk m c 0 t) (iblk m c 1 t) a j) ((Memref.isWhole_whole _).read_unread _)

/-- The result array after the run is the reference's. -/
theorem final (c : Dev nD) : (dats m 0 c).arrAt 2 (cfgs 0).N
    = Cert.Reference12Ideal.Read.val_main_v3 (F := Ideal) (m ((c : Thread nD τ).loc main_arg0)) (m ((c : Thread nD τ).loc main_arg1)) := by
  refine (dats m 0 c).arrAt_eq_of_covers 2 _ (by decide +kernel) fun t hf y => ?_
  have hf := (flush0_2 t).mp hf
  have ht : t.val < 32 := lt_of_lt_of_eq t.isLt N_0
  blk_simp
  rw [after0_2, out_eq m c t hf]
  rw [Pipeline.eq_sum_fin_of_reset_step_apply_of_flush (fun n h => (outsAt0 m c n h).2) 4 (fun _ => 0)
    (fun t j => k0_pay2 (F := Ideal) (iblk m c 0 t) (iblk m c 1 t) j)
    (fun t h j => by rw [zero_add]; exact first m c t h j) (fun t h j => later m c t h j) t hf _, zero_add]
  rw [ref]
  refine (Fin.sum_fin_congr fun s => pay _ _ _).trans ?_
  refine Fin.sum_mul_add_congr fun s k hl => ?_
  have hs := s.isLt
  have hr := Pipeline.run_point_lt_of_flush t hf s
  have hy1 : (y 1 : ℕ) < 1024 := (y 1).isLt
  have he : ((((win0_2.blk t).view.emb y) 1 : Fin _) : ℕ) = t.val % 8 / 4 * 1024 + y 1 := by blk_simp [idx t]
  have hb := part m c ⟨_, hr⟩ (ix4 0 0 (y 1) k) (ix2 ((win0_2.blk t).view.emb y 1) ⟨(s : ℕ) * 2048 + k, hl⟩)
    (he.trans (show t.val % 8 / 4 * 1024 + (y 1 : ℕ) = (4 * (t.val / 4) + (s : ℕ)) % 8 / 4 * 1024 + y 1 by omega))
    (show (s : ℕ) * 2048 + k = (4 * (t.val / 4) + (s : ℕ)) % 4 * 2048 + k by omega)
  refine congrArg₂ (fun a b : EReal => a * b) ?_ hb
  blk_point [iblk, V, idx t, idx ⟨_, hr⟩]

end Prod.K12

end
-- ==== Proof.Prod.K13.lean ====
/- The weight gradient of the input product of the gating unit. -/
module

public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

namespace Prod.K13

open Cert.Kernel13Ideal Cert.Kernel13Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 8] ∧ win0_1.index t = ![0, t.val % 8] ∧ win0_2.index t = ![t.val % 8 / 2, t.val / 8, t.val % 2] :=
  (by decide +kernel : ∀ t : Fin grid0.N, _)

/-- The reference's product, read at an index. -/
theorem ref (x0 : (⟨S4096x2048, .bf16⟩ : BufTy).Contents (Elt Ideal)) (x1 : (⟨S4096x8192, .bf16⟩ : BufTy).Contents (Elt Ideal)) (i : S4x2048x2048.Idx) (h : (i 0 : ℕ) * 2048 + i 2 < 8192) :
    Cert.Reference13Ideal.Read.val_main_v15 (F := Ideal) x0 x1 i
      = ∑ k : Fin 4096, x1 (ix2 k ⟨(i 0 : ℕ) * 2048 + i 2, h⟩) * x0 (ix2 k (i 1)) := by
  pointwise [Cert.Reference13Ideal.Read.val_main_v15, Cert.Reference13Ideal.Read.val_main_v14, Cert.Reference13Ideal.Read.val_main_v13, Cert.Reference13Ideal.Read.val_main_v12, Cert.Reference13Ideal.Read.val_main_v11, Cert.Reference13Ideal.Read.val_main_v10, Cert.Reference13Ideal.Read.val_main_v9, Cert.Reference13Ideal.Read.val_main_v8, Cert.Reference13Ideal.Read.val_main_v7, Cert.Reference13Ideal.Read.val_main_v6, Cert.Reference13Ideal.Read.val_main_v5, Cert.Reference13Ideal.Read.val_main_v4]
  have hl : (i 0 : ℕ) < 4 := (i 0).isLt
  have e : ∀ (a : Fin 8192) (k : Fin 4096), (a : ℕ) = (i 0 : ℕ) * 2048 + i 2 →
      Cert.Reference13Ideal.Read.val_main_v3 (F := Ideal) x1 (ix2 k a) * Cert.Reference13Ideal.Read.val_main_v1 (F := Ideal) x0 (ix2 k (i 1))
        = x1 (ix2 k ⟨(i 0 : ℕ) * 2048 + i 2, h⟩) * x0 (ix2 k (i 1)) := by
    rintro ⟨a, ha⟩ k rfl
    pointwise [Cert.Reference13Ideal.Read.val_main_v1, Cert.Reference13Ideal.Read.val_main_v3]
  split_ifs <;> exact Fin.sum_fin_congr fun k => e _ k (by dsimp only; omega)

/-- What a grid point stores is the reference's product there. -/
theorem point (c : Dev nD) (t : Fin cfg0.N) (y : S1x512x1024.Idx) (i : S4x2048x2048.Idx)
    (h0 : (i 0 : ℕ) = t.val % 8 / 2) (h1 : (i 1 : ℕ) = t.val / 8 * 512 + y 1) (h2 : (i 2 : ℕ) = t.val % 2 * 1024 + y 2) :
    k0_pay1 (F := Ideal) (iblk m c 0 t) (iblk m c 1 t) y
    = Cert.Reference13Ideal.Read.val_main_v15 (F := Ideal) (m ((c : Thread nD τ).loc main_arg0)) (m ((c : Thread nD τ).loc main_arg1)) i := by
  have ht : t.val < 32 := lt_of_lt_of_eq t.isLt N_0
  rw [ref _ _ _ (by have : (y 2 : ℕ) < 1024 := (y 2).isLt; omega)]
  pointwise [k0_pay1]
  refine Fin.sum_fin_congr fun k => (mul_comm (G := EReal) _ _).trans ?_
  blk_point [iblk, V, idx t]

/-- The result array after the run is the reference's. -/
theorem final (c : Dev nD) : (dats m 0 c).arrAt 2 (cfgs 0).N
    = Cert.Reference13Ideal.Read.val_main_v15 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ ?_ <;> blk_simp [idx t] <;> omega

end Prod.K13

end
-- ==== Proof.Prod.K14.lean ====
/- The recurrence's input product, its gate columns. -/
module

public import proofs.«01_k».proof.Proof.Gen.Kernel14Ideal.Value
public import proofs.«01_k».proof.Proof.Gen.Reference14Ideal.Read
public import Idealize.ShloMosaic.Lib.Pipeline.ValueKit

@[expose] public section

set_option maxRecDepth 16384

noncomputable section

namespace Prod.K14

open Cert.Kernel14Ideal Cert.Kernel14Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference14Ideal.Read.val_main_v2 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference14Ideal.Read.val_main_v2, Cert.Reference14Ideal.Read.val_main_v1, Cert.Reference14Ideal.Read.val_main_v0]
  blk_point [iblk, V, idx t]

/-- The result array after the run is the reference's. -/
theorem final (c : Dev nD) : (dats m 0 c).arrAt 2 (cfgs 0).N
    = Cert.Reference14Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K14

end
-- ==== Proof.Prod.K15.lean ====
/- The gradient that the gate columns of the recurrence's input product send to its left operand, accumulated over
   two blocks of the contraction. -/
module

public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Prod.K15

open Cert.Kernel15Ideal Cert.Kernel15Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, t.val % 2] ∧ win0_1.index t = ![0, t.val % 4 / 2, t.val % 2] ∧ win0_2.index t = ![t.val / 4, t.val % 4 / 2] :=
  (by decide +kernel : ∀ t : Fin grid0.N, _)

/-- The reference's product, read at an index. -/
theorem ref (x0 : (⟨S4096x4096, .bf16⟩ : BufTy).Contents (Elt Ideal)) (x1 : (⟨S2048x10304, .f32⟩ : BufTy).Contents (Elt Ideal)) (i : S4096x2048.Idx) :
    Cert.Reference15Ideal.Read.val_main_v4 (F := Ideal) x0 x1 i = ∑ l : Fin 4096, x0 (ix2 (i 0) l) * x1 (ix2 (i 1) ⟨l, by omega⟩) := by
  pointwise [Cert.Reference15Ideal.Read.val_main_v4, Cert.Reference15Ideal.Read.val_main_v3, Cert.Reference15Ideal.Read.val_main_v1]

/-- The product of two blocks, read at an index. -/
theorem pay (x0 : Vec Ideal S1024x2048 .bf16) (x1 : Vec Ideal S1x1024x2048 .bf16) (j : S1024x1024.Idx) :
    k0_pay2 (F := Ideal) x0 x1 j = ∑ k : Fin 2048, x0 (ix2 (j 0) k) * x1 (ix3 0 (j 1) k) := by
  pointwise [k0_pay2, k0_pay1]

/-- What is added to the accumulator at a later point. -/
theorem acc (x0 : Vec Ideal S1024x2048 .bf16) (x1 : Vec Ideal S1x1024x2048 .bf16) (a : Vec Ideal S1024x1024 .f32) (j : S1024x1024.Idx) :
    k0_pay3 (F := Ideal) x0 x1 a j = a j + k0_pay2 (F := Ideal) x0 x1 j := by
  pointwise [k0_pay3, k0_pay2]

/-- At the last point of a run the result block holds what the accumulator holds. -/
theorem out_eq (c : Dev nD) (t : Fin cfg0.N) (h : t.val % 2 = 1) (j) :
    (outsAt0 m c t.val t.isLt).1 j = (outsAt0 m c t.val t.isLt).2 j := by
  rw [outsAt0_B m c t (by omega) h h]; frame_out

/-- The accumulator at the first point of a run. -/
theorem first (c : Dev nD) (t : Fin cfg0.N) (h : t.val % 2 = 0) (j) :
    (outsAt0 m c t.val t.isLt).2 j = k0_pay2 (F := Ideal) (iblk m c 0 t) (iblk m c 1 t) j := by
  rw [outsAt0_A m c t h (by omega) (by omega)]; frame_out

/-- The accumulator at the second point of a run. -/
theorem later (c : Dev nD) (t : Fin cfg0.N) (h : ¬ t.val % 2 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc, outsAt0_B m c t h (by omega) (by omega)]; frame_out
  exact congrArg (fun a => k0_pay3 (F := Ideal) (iblk m c 0 t) (iblk m c 1 t) a j) ((Memref.isWhole_whole _).read_unread _)

/-- The result array after the run is the reference's. -/
theorem final (c : Dev nD) : (dats m 0 c).arrAt 2 (cfgs 0).N
    = Cert.Reference15Ideal.Read.val_main_v4 (F := Ideal) (m ((c : Thread nD τ).loc main_arg0)) (m ((c : Thread nD τ).loc main_arg1)) := by
  refine (dats m 0 c).arrAt_eq_of_covers 2 _ (by decide +kernel) fun t hf y => ?_
  have hf := (flush0_2 t).mp hf
  have ht : t.val < 16 := lt_of_lt_of_eq t.isLt N_0
  blk_simp
  rw [after0_2, out_eq m c t hf]
  rw [Pipeline.eq_sum_fin_of_reset_step_apply_of_flush (fun n h => (outsAt0 m c n h).2) 2 (fun _ => 0)
    (fun t j => k0_pay2 (F := Ideal) (iblk m c 0 t) (iblk m c 1 t) j)
    (fun t h j => by rw [zero_add]; exact first m c t h j) (fun t h j => later m c t h j) t hf _, zero_add]
  rw [ref]
  refine (Fin.sum_fin_congr fun s => pay _ _ _).trans ?_
  refine Fin.sum_mul_add_congr fun s k hl => ?_
  blk_point [iblk, V, idx t, idx ⟨_, Pipeline.run_point_lt_of_flush t hf s⟩]

end Prod.K15

end
-- ==== Proof.Prod.K16.lean ====
/- The weight gradient of the recurrence's input product, its gate columns. -/
module

public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

namespace Prod.K16

open Cert.Kernel16Ideal Cert.Kernel16Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference16Ideal.Read.val_main_v6 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference16Ideal.Read.val_main_v6, Cert.Reference16Ideal.Read.val_main_v5, Cert.Reference16Ideal.Read.val_main_v4, Cert.Reference16Ideal.Read.val_main_v3]
  refine Fin.sum_fin_congr fun k => (mul_comm (G := EReal) _ _).trans ?_
  blk_point [iblk, V, idx t]

/-- The result array after the run is the reference's. -/
theorem final (c : Dev nD) : (dats m 0 c).arrAt 2 (cfgs 0).N
    = Cert.Reference16Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K16

end
-- ==== Proof.Prod.K17.lean ====
/- The recurrence's input product, the columns that its convolution takes. -/
module

public import proofs.«01_k».proof.Proof.Gen.Kernel17Ideal.Value
public import proofs.«01_k».proof.Proof.Gen.Reference17Ideal.Read
public import Idealize.ShloMosaic.Lib.Pipeline.ValueKit

@[expose] public section

set_option maxRecDepth 16384

noncomputable section

namespace Prod.K17

open Cert.Kernel17Ideal Cert.Kernel17Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference17Ideal.Read.val_main_v2 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference17Ideal.Read.val_main_v2, Cert.Reference17Ideal.Read.val_main_v1, Cert.Reference17Ideal.Read.val_main_v0]
  blk_point [iblk, V, idx t]

/-- The result array after the run is the reference's. -/
theorem final (c : Dev nD) : (dats m 0 c).arrAt 2 (cfgs 0).N
    = Cert.Reference17Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K17

end
-- ==== Proof.Prod.K18.lean ====
/- The gradient that the convolution's columns of the recurrence's input product send to its left operand, accumulated over
   three blocks of the contraction and added to the gradient from the gate's columns. -/
module

public import proofs.«01_k».proof.Proof.Gen.Kernel18Ideal.Value
public import proofs.«01_k».proof.Proof.Gen.Reference18Ideal.Read
public import Idealize.ShloMosaic.Lib.Pipeline.ValueKit

@[expose] public section

set_option maxRecDepth 16384

noncomputable section

namespace Prod.K18

open Cert.Kernel18Ideal Cert.Kernel18Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 6, t.val % 3] ∧ win0_1.index t = ![0, t.val % 6 / 3, t.val % 3] ∧ win0_2.index t = ![t.val / 6, t.val % 6 / 3] ∧ win0_3.index t = ![t.val / 6, t.val % 6 / 3] :=
  (by decide +kernel : ∀ t : Fin grid0.N, _)

/-- The reference's product, read at an index. -/
theorem ref (x0 : (⟨S4096x6144, .bf16⟩ : BufTy).Contents (Elt Ideal)) (x1 : (⟨S2048x10304, .f32⟩ : BufTy).Contents (Elt Ideal)) (x2 : (⟨S4096x2048, .f32⟩ : BufTy).Contents (Elt Ideal)) (i : S4096x2048.Idx) :
    Cert.Reference18Ideal.Read.val_main_v5 (F := Ideal) x0 x1 x2 i = x2 i + ∑ l : Fin 6144, x0 (ix2 (i 0) l) * x1 (ix2 (i 1) ⟨4096 + l, by omega⟩) := by
  pointwise [Cert.Reference18Ideal.Read.val_main_v5, Cert.Reference18Ideal.Read.val_main_v4, Cert.Reference18Ideal.Read.val_main_v3, Cert.Reference18Ideal.Read.val_main_v1]

/-- The product of two blocks, read at an index. -/
theorem pay (x0 : Vec Ideal S1024x2048 .bf16) (x1 : Vec Ideal S1x1024x2048 .bf16) (j : S1024x1024.Idx) :
    k0_pay2 (F := Ideal) x0 x1 j = ∑ k : Fin 2048, x0 (ix2 (j 0) k) * x1 (ix3 0 (j 1) k) := by
  pointwise [k0_pay2, k0_pay1]

/-- What is added to the accumulator at a later point. -/
theorem acc (x0 : Vec Ideal S1024x2048 .bf16) (x1 : Vec Ideal S1x1024x2048 .bf16) (a : Vec Ideal S1024x1024 .f32) (j : S1024x1024.Idx) :
    k0_pay3 (F := Ideal) x0 x1 a j = a j + k0_pay2 (F := Ideal) x0 x1 j := by
  pointwise [k0_pay3, k0_pay2]

/-- At the last point of a run the result block holds what the accumulator holds and the added gradient. -/
theorem out_eq (c : Dev nD) (t : Fin cfg0.N) (h : t.val % 3 = 2) (j) :
    (outsAt0 m c t.val t.isLt).1 j = (outsAt0 m c t.val t.isLt).2 j + iblk m c 2 t j := by
  rw [outsAt0_C m c t (by omega) (by omega) h]; frame_out; rfl

/-- The accumulator at the first point of a run. -/
theorem first (c : Dev nD) (t : Fin cfg0.N) (h : t.val % 3 = 0) (j) :
    (outsAt0 m c t.val t.isLt).2 j = k0_pay2 (F := Ideal) (iblk m c 0 t) (iblk m c 1 t) j := by
  rw [outsAt0_A m c t h (by omega) (by omega)]; frame_out

/-- The accumulator at a later point of a run. -/
theorem later (c : Dev nD) (t : Fin cfg0.N) (h : ¬ t.val % 3 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc]
  by_cases h3 : t.val % 3 = 2
  · rw [outsAt0_C m c t h (by omega) h3]; frame_out; exact congrArg (fun a => k0_pay3 (F := Ideal) (iblk m c 0 t) (iblk m c 1 t) a j) ((Memref.isWhole_whole _).read_unread _)
  · rw [outsAt0_B m c t h (by omega) h3]; frame_out; exact congrArg (fun a => k0_pay3 (F := Ideal) (iblk m c 0 t) (iblk m c 1 t) a j) ((Memref.isWhole_whole _).read_unread _)

/-- The result array after the run is the reference's. -/
theorem final (c : Dev nD) : (dats m 0 c).arrAt 3 (cfgs 0).N
    = Cert.Reference18Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hf := (flush0_3 t).mp hf
  have ht : t.val < 24 := lt_of_lt_of_eq t.isLt N_0
  blk_simp
  rw [after0_3, out_eq m c t hf]
  rw [Pipeline.eq_sum_fin_of_reset_step_apply_of_flush (fun n h => (outsAt0 m c n h).2) 3 (fun _ => 0)
    (fun t j => k0_pay2 (F := Ideal) (iblk m c 0 t) (iblk m c 1 t) j)
    (fun t h j => by rw [zero_add]; exact first m c t h j) (fun t h j => later m c t h j) t hf _, zero_add]
  rw [ref]
  refine (add_comm (G := EReal) _ _).trans (congrArg₂ (fun a b : EReal => a + b) (by blk_point [iblk, V, idx t]) ?_)
  refine (Fin.sum_fin_congr fun s => pay _ _ _).trans ?_
  refine Fin.sum_mul_add_congr fun s k hl => ?_
  blk_point [iblk, V, idx t, idx ⟨_, Pipeline.run_point_lt_of_flush t hf s⟩]

end Prod.K18

end
-- ==== Proof.Prod.K19.lean ====
/- The weight gradient of the recurrence's input product, the columns that its convolution takes. -/
module

public import proofs.«01_k».proof.Proof.Gen.Kernel19Ideal.Value
public import proofs.«01_k».proof.Proof.Gen.Reference19Ideal.Read
public import Idealize.ShloMosaic.Lib.Pipeline.ValueKit

@[expose] public section

set_option maxRecDepth 16384

noncomputable section

namespace Prod.K19

open Cert.Kernel19Ideal Cert.Kernel19Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference19Ideal.Read.val_main_v6 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference19Ideal.Read.val_main_v6, Cert.Reference19Ideal.Read.val_main_v5, Cert.Reference19Ideal.Read.val_main_v4, Cert.Reference19Ideal.Read.val_main_v3]
  refine Fin.sum_fin_congr fun k => (mul_comm (G := EReal) _ _).trans ?_
  blk_point [iblk, V, idx t]

/-- The result array after the run is the reference's. -/
theorem final (c : Dev nD) : (dats m 0 c).arrAt 2 (cfgs 0).N
    = Cert.Reference19Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K19

end
-- ==== Proof.Prod.K20.lean ====
/- The input product of the stick-breaking attention. -/
module

public import proofs.«01_k».proof.Proof.Gen.Kernel20Ideal.Value
public import proofs.«01_k».proof.Proof.Gen.Reference20Ideal.Read
public import Idealize.ShloMosaic.Lib.Pipeline.ValueKit

@[expose] public section

set_option maxRecDepth 16384

noncomputable section

namespace Prod.K20

open Cert.Kernel20Ideal Cert.Kernel20Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

/-- The array of the weight's shards, read at an index. -/
theorem shard (c : Dev nD) (y : S4x1x2048x1536.Idx) (j : S2048x6144.Idx) (h0 : (j 0 : ℕ) = y 2) (h1 : (j 1 : ℕ) = y 0 * 1536 + y 3) :
    V m c main_v3 y = m ((c : Thread nD τ).loc main_arg1) j := by
  entry_read
  pointwise
  blk_ext

/-- The block of the weight's shards that a grid point takes. -/
theorem part (c : Dev nD) (t : Fin cfg0.N) (y : S1x1x2048x1536.Idx) (j : S2048x6144.Idx)
    (h0 : (j 0 : ℕ) = y 2) (h1 : (j 1 : ℕ) = t.val % 4 * 1536 + y 3) :
    iblk m c 1 t y = m ((c : Thread nD τ).loc main_arg1) j := by
  refine shard m c _ _ ?_ ?_ <;> blk_simp [idx t] <;> omega

/-- What a grid point stores is the reference's product there. -/
theorem point (c : Dev nD) (t : Fin cfg0.N) (y : S1024x1536.Idx) (i : S4096x6144.Idx)
    (h0 : (i 0 : ℕ) = t.val / 4 * 1024 + y 0) (h1 : (i 1 : ℕ) = t.val % 4 * 1536 + y 1) :
    k0_pay1 (F := Ideal) (iblk m c 0 t) (iblk m c 1 t) y
    = Cert.Reference20Ideal.Read.val_main_v2 (F := Ideal) (m ((c : Thread nD τ).loc main_arg0)) (m ((c : Thread nD τ).loc main_arg1)) i := by
  have ht : t.val < 16 := lt_of_lt_of_eq t.isLt N_0
  have hb := part m c t
  generalize iblk m c 1 t = B at hb ⊢
  pointwise [k0_pay1, Cert.Reference20Ideal.Read.val_main_v2, Cert.Reference20Ideal.Read.val_main_v1, Cert.Reference20Ideal.Read.val_main_v0]
  blk_point [iblk, V, idx t]
  all_goals refine hb _ _ ?_ ?_ <;> blk_simp <;> (try dsimp only) <;> omega

/-- The result array after the run is the reference's. -/
theorem final (c : Dev nD) : (dats m 0 c).arrAt 2 (cfgs 0).N
    = Cert.Reference20Ideal.Read.val_main_v2 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ <;> blk_simp [idx t] <;> omega

end Prod.K20

end
-- ==== Proof.Prod.K21.lean ====
/- The gradient that the input product of the stick-breaking attention sends to its left operand, accumulated over
   four blocks of the contraction. -/
module

public import proofs.«01_k».proof.Proof.Gen.Kernel21Ideal.Value
public import proofs.«01_k».proof.Proof.Gen.Reference21Ideal.Read
public import Idealize.ShloMosaic.Lib.Pipeline.ValueKit

@[expose] public section

set_option maxRecDepth 16384

noncomputable section

namespace Prod.K21

open Cert.Kernel21Ideal Cert.Kernel21Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 8, t.val % 4] ∧ win0_1.index t = ![t.val % 4, 0, t.val % 8 / 4, 0] ∧ win0_2.index t = ![t.val / 8, t.val % 8 / 4] :=
  (by decide +kernel : ∀ t : Fin grid0.N, _)

/-- The array of the weight's shards, read at an index. -/
theorem shard (c : Dev nD) (y : S4x1x2048x1536.Idx) (j : S2048x6144.Idx) (h0 : (j 0 : ℕ) = y 2) (h1 : (j 1 : ℕ) = y 0 * 1536 + y 3) :
    V m c main_v3 y = m ((c : Thread nD τ).loc main_arg1) j := by
  entry_read
  pointwise
  blk_ext

/-- The block of the weight's shards that a grid point takes. -/
theorem part (c : Dev nD) (t : Fin cfg0.N) (y : S1x1x1024x1536.Idx) (j : S2048x6144.Idx)
    (h0 : (j 0 : ℕ) = t.val % 8 / 4 * 1024 + y 2) (h1 : (j 1 : ℕ) = t.val % 4 * 1536 + y 3) :
    iblk m c 1 t y = m ((c : Thread nD τ).loc main_arg1) j := by
  refine shard m c _ _ ?_ ?_ <;> blk_simp [idx t] <;> omega

/-- The reference's product, read at an index. -/
theorem ref (x0 : (⟨S4096x6144, .bf16⟩ : BufTy).Contents (Elt Ideal)) (x1 : (⟨S2048x6144, .f32⟩ : BufTy).Contents (Elt Ideal)) (i : S4096x2048.Idx) :
    Cert.Reference21Ideal.Read.val_main_v3 (F := Ideal) x0 x1 i
      = ∑ l : Fin 6144, x0 (ix2 (i 0) l) * x1 (ix2 (i 1) l) := by
  pointwise [Cert.Reference21Ideal.Read.val_main_v3, Cert.Reference21Ideal.Read.val_main_v2]

/-- The product of two blocks, read at an index. -/
theorem pay (x0 : Vec Ideal S1024x1536 .bf16) (x1 : Vec Ideal S1x1x1024x1536 .bf16) (j : S1024x1024.Idx) :
    k0_pay2 (F := Ideal) x0 x1 j = ∑ k : Fin 1536, x0 (ix2 (j 0) k) * x1 (ix4 0 0 (j 1) k) := by
  pointwise [k0_pay2, k0_pay1]

/-- What is added to the accumulator at a later point. -/
theorem acc (x0 : Vec Ideal S1024x1536 .bf16) (x1 : Vec Ideal S1x1x1024x1536 .bf16) (a : Vec Ideal S1024x1024 .f32) (j : S1024x1024.Idx) :
    k0_pay3 (F := Ideal) x0 x1 a j = a j + k0_pay2 (F := Ideal) x0 x1 j := by
  pointwise [k0_pay3, k0_pay2]

/-- At the last point of a run the result block holds what the accumulator holds. -/
theorem out_eq (c : Dev nD) (t : Fin cfg0.N) (h : t.val % 4 = 3) (j) :
    (outsAt0 m c t.val t.isLt).1 j = (outsAt0 m c t.val t.isLt).2 j := by
  rw [outsAt0_C m c t (by omega) (by omega) h]; frame_out

/-- The accumulator at the first point of a run. -/
theorem first (c : Dev nD) (t : Fin cfg0.N) (h : t.val % 4 = 0) (j) :
    (outsAt0 m c t.val t.isLt).2 j = k0_pay2 (F := Ideal) (iblk m c 0 t) (iblk m c 1 t) j := by
  rw [outsAt0_A m c t h (by omega) (by omega)]; frame_out

/-- The accumulator at a later point of a run. -/
theorem later (c : Dev nD) (t : Fin cfg0.N) (h : ¬ t.val % 4 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc]
  by_cases h3 : t.val % 4 = 3
  · rw [outsAt0_C m c t h (by omega) h3]; frame_out; exact congrArg (fun a => k0_pay3 (F := Ideal) (iblk m c 0 t) (iblk m c 1 t) a j) ((Memref.isWhole_whole _).read_unread _)
  · rw [outsAt0_B m c t h (by omega) h3]; frame_out; exact congrArg (fun a => k0_pay3 (F := Ideal) (iblk m c 0 t) (iblk m c 1 t) a j) ((Memref.isWhole_whole _).read_unread _)

/-- The result array after the run is the reference's. -/
theorem final (c : Dev nD) : (dats m 0 c).arrAt 2 (cfgs 0).N
    = Cert.Reference21Ideal.Read.val_main_v3 (F := Ideal) (m ((c : Thread nD τ).loc main_arg0)) (m ((c : Thread nD τ).loc main_arg1)) := by
  refine (dats m 0 c).arrAt_eq_of_covers 2 _ (by decide +kernel) fun t hf y => ?_
  have hf := (flush0_2 t).mp hf
  have ht : t.val < 32 := lt_of_lt_of_eq t.isLt N_0
  blk_simp
  rw [after0_2, out_eq m c t hf]
  rw [Pipeline.eq_sum_fin_of_reset_step_apply_of_flush (fun n h => (outsAt0 m c n h).2) 4 (fun _ => 0)
    (fun t j => k0_pay2 (F := Ideal) (iblk m c 0 t) (iblk m c 1 t) j)
    (fun t h j => by rw [zero_add]; exact first m c t h j) (fun t h j => later m c t h j) t hf _, zero_add]
  rw [ref]
  refine (Fin.sum_fin_congr fun s => pay _ _ _).trans ?_
  refine Fin.sum_mul_add_congr fun s k hl => ?_
  have hs := s.isLt
  have hr := Pipeline.run_point_lt_of_flush t hf s
  have hy1 : (y 1 : ℕ) < 1024 := (y 1).isLt
  have he : ((((win0_2.blk t).view.emb y) 1 : Fin _) : ℕ) = t.val % 8 / 4 * 1024 + y 1 := by blk_simp [idx t]
  have hb := part m c ⟨_, hr⟩ (ix4 0 0 (y 1) k) (ix2 ((win0_2.blk t).view.emb y 1) ⟨(s : ℕ) * 1536 + k, hl⟩)
    (he.trans (show t.val % 8 / 4 * 1024 + (y 1 : ℕ) = (4 * (t.val / 4) + (s : ℕ)) % 8 / 4 * 1024 + y 1 by omega))
    (show (s : ℕ) * 1536 + k = (4 * (t.val / 4) + (s : ℕ)) % 4 * 1536 + k by omega)
  refine congrArg₂ (fun a b : EReal => a * b) ?_ hb
  blk_point [iblk, V, idx t, idx ⟨_, hr⟩]

end Prod.K21

end
-- ==== Proof.Prod.K22.lean ====
/- The weight gradient of the input product of the stick-breaking attention. -/
module

public import proofs.«01_k».proof.Proof.Gen.Kernel22Ideal.Value
public import proofs.«01_k».proof.Proof.Gen.Reference22Ideal.Read
public import Idealize.ShloMosaic.Lib.Pipeline.ValueKit

@[expose] public section

set_option maxRecDepth 16384

noncomputable section

namespace Prod.K22

open Cert.Kernel22Ideal Cert.Kernel22Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 4] ∧ win0_1.index t = ![0, t.val % 4] ∧ win0_2.index t = ![t.val % 4, t.val / 4, 0] :=
  (by decide +kernel : ∀ t : Fin grid0.N, _)

/-- The reference's product, read at an index. -/
theorem ref (x0 : (⟨S4096x2048, .bf16⟩ : BufTy).Contents (Elt Ideal)) (x1 : (⟨S4096x6144, .bf16⟩ : BufTy).Contents (Elt Ideal)) (i : S4x2048x1536.Idx) (h : (i 0 : ℕ) * 1536 + i 2 < 6144) :
    Cert.Reference22Ideal.Read.val_main_v15 (F := Ideal) x0 x1 i
      = ∑ k : Fin 4096, x1 (ix2 k ⟨(i 0 : ℕ) * 1536 + i 2, h⟩) * x0 (ix2 k (i 1)) := by
  pointwise [Cert.Reference22Ideal.Read.val_main_v15, Cert.Reference22Ideal.Read.val_main_v14, Cert.Reference22Ideal.Read.val_main_v13, Cert.Reference22Ideal.Read.val_main_v12, Cert.Reference22Ideal.Read.val_main_v11, Cert.Reference22Ideal.Read.val_main_v10, Cert.Reference22Ideal.Read.val_main_v9, Cert.Reference22Ideal.Read.val_main_v8, Cert.Reference22Ideal.Read.val_main_v7, Cert.Reference22Ideal.Read.val_main_v6, Cert.Reference22Ideal.Read.val_main_v5, Cert.Reference22Ideal.Read.val_main_v4]
  have hl : (i 0 : ℕ) < 4 := (i 0).isLt
  have e : ∀ (a : Fin 6144) (k : Fin 4096), (a : ℕ) = (i 0 : ℕ) * 1536 + i 2 →
      Cert.Reference22Ideal.Read.val_main_v3 (F := Ideal) x1 (ix2 k a) * Cert.Reference22Ideal.Read.val_main_v1 (F := Ideal) x0 (ix2 k (i 1))
        = x1 (ix2 k ⟨(i 0 : ℕ) * 1536 + i 2, h⟩) * x0 (ix2 k (i 1)) := by
    rintro ⟨a, ha⟩ k rfl
    pointwise [Cert.Reference22Ideal.Read.val_main_v1, Cert.Reference22Ideal.Read.val_main_v3]
  split_ifs <;> exact Fin.sum_fin_congr fun k => e _ k (by dsimp only; omega)

/-- What a grid point stores is the reference's product there. -/
theorem point (c : Dev nD) (t : Fin cfg0.N) (y : S1x512x1536.Idx) (i : S4x2048x1536.Idx)
    (h0 : (i 0 : ℕ) = t.val % 4) (h1 : (i 1 : ℕ) = t.val / 4 * 512 + y 1) (h2 : (i 2 : ℕ) = y 2) :
    k0_pay1 (F := Ideal) (iblk m c 0 t) (iblk m c 1 t) y
    = Cert.Reference22Ideal.Read.val_main_v15 (F := Ideal) (m ((c : Thread nD τ).loc main_arg0)) (m ((c : Thread nD τ).loc main_arg1)) i := by
  have ht : t.val < 16 := lt_of_lt_of_eq t.isLt N_0
  rw [ref _ _ _ (by have : (y 2 : ℕ) < 1536 := (y 2).isLt; omega)]
  pointwise [k0_pay1]
  refine Fin.sum_fin_congr fun k => (mul_comm (G := EReal) _ _).trans ?_
  blk_point [iblk, V, idx t]

/-- The result array after the run is the reference's. -/
theorem final (c : Dev nD) : (dats m 0 c).arrAt 2 (cfgs 0).N
    = Cert.Reference22Ideal.Read.val_main_v15 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  refine point m c t y _ ?_ ?_ ?_ <;> blk_simp [idx t] <;> omega

end Prod.K22

end
-- ==== Proof.Prod.K23.lean ====
/- The output product of the stick-breaking attention, accumulated over four blocks of the contraction. -/
module

public import proofs.«01_k».proof.Proof.Gen.Kernel23Ideal.Value
public import proofs.«01_k».proof.Proof.Gen.Reference23Ideal.Read
public import Idealize.ShloMosaic.Lib.Pipeline.ValueKit

@[expose] public section

set_option maxRecDepth 16384

noncomputable section

namespace Prod.K23

open Cert.Kernel23Ideal Cert.Kernel23Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 8, t.val % 4] ∧ win0_1.index t = ![t.val % 4, 0, 0, t.val % 8 / 4] ∧ win0_2.index t = ![t.val / 8, t.val % 8 / 4] :=
  (by decide +kernel : ∀ t : Fin grid0.N, _)

/-- The reference's product, read at an index. -/
theorem ref (x0 : (⟨S4096x2048, .bf16⟩ : BufTy).Contents (Elt Ideal)) (x1 : (⟨S2048x2048, .f32⟩ : BufTy).Contents (Elt Ideal)) (i : S4096x2048.Idx) :
    Cert.Reference23Ideal.Read.val_main_v1 (F := Ideal) x0 x1 i = ∑ l : Fin 2048, x0 (ix2 (i 0) l) * x1 (ix2 l (i 1)) := by
  pointwise [Cert.Reference23Ideal.Read.val_main_v1, Cert.Reference23Ideal.Read.val_main_v0]

/-- The product of two blocks, read at an index. -/
theorem pay (x0 : Vec Ideal S1024x512 .bf16) (x1 : Vec Ideal S1x1x512x1024 .bf16) (j : S1024x1024.Idx) :
    k0_pay2 (F := Ideal) x0 x1 j = ∑ k : Fin 512, x0 (ix2 (j 0) k) * x1 (ix4 0 0 k (j 1)) := by
  pointwise [k0_pay2, k0_pay1]

/-- What is added to the accumulator at a later point. -/
theorem acc (x0 : Vec Ideal S1024x512 .bf16) (x1 : Vec Ideal S1x1x512x1024 .bf16) (a : Vec Ideal S1024x1024 .f32) (j : S1024x1024.Idx) :
    k0_pay3 (F := Ideal) x0 x1 a j = a j + k0_pay2 (F := Ideal) x0 x1 j := by
  pointwise [k0_pay3, k0_pay2]

/-- At the last point of a run the result block holds what the accumulator holds. -/
theorem out_eq (c : Dev nD) (t : Fin cfg0.N) (h : t.val % 4 = 3) (j) :
    (outsAt0 m c t.val t.isLt).1 j = (outsAt0 m c t.val t.isLt).2 j := by
  rw [outsAt0_C m c t (by omega) (by omega) h]; frame_out

/-- The accumulator at the first point of a run. -/
theorem first (c : Dev nD) (t : Fin cfg0.N) (h : t.val % 4 = 0) (j) :
    (outsAt0 m c t.val t.isLt).2 j = k0_pay2 (F := Ideal) (iblk m c 0 t) (iblk m c 1 t) j := by
  rw [outsAt0_A m c t h (by omega) (by omega)]; frame_out

/-- The accumulator at a later point of a run. -/
theorem later (c : Dev nD) (t : Fin cfg0.N) (h : ¬ t.val % 4 = 0) (j) :
    (outsAt0 m c t.val t.isLt).2 j
      = (outsAt0 m c (t.val - 1) (Nat.lt_of_le_of_lt (Nat.sub_le _ _) t.isLt)).2 j + k0_pay2 (F := Ideal) (iblk m c 0 t) (iblk m c 1 t) j := by
  rw [← acc]
  by_cases h3 : t.val % 4 = 3
  · rw [outsAt0_C m c t h (by omega) h3]; frame_out; exact congrArg (fun a => k0_pay3 (F := Ideal) (iblk m c 0 t) (iblk m c 1 t) a j) ((Memref.isWhole_whole _).read_unread _)
  · rw [outsAt0_B m c t h (by omega) h3]; frame_out; exact congrArg (fun a => k0_pay3 (F := Ideal) (iblk m c 0 t) (iblk m c 1 t) a j) ((Memref.isWhole_whole _).read_unread _)

/-- The result array after the run is the reference's. -/
theorem final (c : Dev nD) : (dats m 0 c).arrAt 2 (cfgs 0).N
    = Cert.Reference23Ideal.Read.val_main_v1 (F := Ideal) (m ((c : Thread nD τ).loc main_arg0)) (m ((c : Thread nD τ).loc main_arg1)) := by
  refine (dats m 0 c).arrAt_eq_of_covers 2 _ (by decide +kernel) fun t hf y => ?_
  have hf := (flush0_2 t).mp hf
  have ht : t.val < 32 := lt_of_lt_of_eq t.isLt N_0
  blk_simp
  rw [after0_2, out_eq m c t hf]
  rw [Pipeline.eq_sum_fin_of_reset_step_apply_of_flush (fun n h => (outsAt0 m c n h).2) 4 (fun _ => 0)
    (fun t j => k0_pay2 (F := Ideal) (iblk m c 0 t) (iblk m c 1 t) j)
    (fun t h j => by rw [zero_add]; exact first m c t h j) (fun t h j => later m c t h j) t hf _, zero_add]
  rw [ref]
  refine (Fin.sum_fin_congr fun s => pay _ _ _).trans ?_
  refine Fin.sum_mul_add_congr fun s k hl => ?_
  blk_point [iblk, V, idx t, idx ⟨_, Pipeline.run_point_lt_of_flush t hf s⟩]

end Prod.K23

end
-- ==== Proof.Prod.K24.lean ====
/- The gradient that the output product of the stick-breaking attention sends to its left operand. -/
module

public import proofs.«01_k».proof.Proof.Gen.Kernel24Ideal.Value
public import proofs.«01_k».proof.Proof.Gen.Reference24Ideal.Read
public import Idealize.ShloMosaic.Lib.Pipeline.ValueKit

@[expose] public section

set_option maxRecDepth 16384

noncomputable section

namespace Prod.K24

open Cert.Kernel24Ideal Cert.Kernel24Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![t.val / 4, 0] ∧ win0_1.index t = ![t.val % 4, 0, 0, 0] ∧ win0_2.index t = ![t.val / 4, t.val % 4] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference24Ideal.Read.val_main_v4 (F := Ideal) (m ((c : Thread nD τ).loc main_arg0)) (m ((c : Thread nD τ).loc main_arg1)) (((cfg0.win 2).blk t).view.emb y) := by
  have ht : t.val < 16 := lt_of_lt_of_eq t.isLt N_0
  pointwise [k0_pay1, Cert.Reference24Ideal.Read.val_main_v4, Cert.Reference24Ideal.Read.val_main_v3, Cert.Reference24Ideal.Read.val_main_v2]
  blk_point [iblk, V, idx t]

/-- The result array after the run is the reference's. -/
theorem final (c : Dev nD) : (dats m 0 c).arrAt 2 (cfgs 0).N
    = Cert.Reference24Ideal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K24

end
-- ==== Proof.Prod.K25.lean ====
/- The weight gradient of the output product of the stick-breaking attention. -/
module

public import proofs.«01_k».proof.Proof.Gen.Kernel25Ideal.Value
public import proofs.«01_k».proof.Proof.Gen.Reference25Ideal.Read
public import Idealize.ShloMosaic.Lib.Pipeline.ValueKit

@[expose] public section

set_option maxRecDepth 16384

noncomputable section

namespace Prod.K25

open Cert.Kernel25Ideal Cert.Kernel25Ideal.Gen Idealize.ShloMosaic Idealize.ShloMosaic.TcCoe Idealize.SL.Sem

variable (m : (ℓ : Loc nD τ sig) → Buf (Elt Ideal) ℓ)

/-- The index maps of the windows. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- What a grid point stores is the reference's product there. -/
theorem point (c : Dev nD) (t : Fin cfg0.N) (y) : k0_pay1 (F := Ideal) (iblk m c 0 t) (iblk m c 1 t) y
    = Cert.Reference25Ideal.Read.val_main_v6 (F := Ideal) (m ((c : Thread nD τ).loc main_arg0)) (m ((c : Thread nD τ).loc main_arg1)) (((cfg0.win 2).blk t).view.emb y) := by
  have ht : t.val < 8 := lt_of_lt_of_eq t.isLt N_0
  pointwise [k0_pay1, Cert.Reference25Ideal.Read.val_main_v6, Cert.Reference25Ideal.Read.val_main_v5, Cert.Reference25Ideal.Read.val_main_v4, Cert.Reference25Ideal.Read.val_main_v3]
  refine Fin.sum_fin_congr fun k => (mul_comm (G := EReal) _ _).trans ?_
  blk_point [iblk, V, idx t]

/-- The result array after the run is the reference's. -/
theorem final (c : Dev nD) : (dats m 0 c).arrAt 2 (cfgs 0).N
    = Cert.Reference25Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Prod.K25

end
-- ==== Proof.Prod.Claims.lean ====
/- The claims of the products: frames and values. No operation is replaced. -/
module

public import proofs.«01_k».proof.Defs
public import proofs.«01_k».proof.Proof.Prod.K2
public import proofs.«01_k».proof.Proof.Gen.Kernel2.Frame
public import proofs.«01_k».proof.Proof.Prod.K3
public import proofs.«01_k».proof.Proof.Gen.Kernel3.Frame
public import proofs.«01_k».proof.Proof.Prod.K4
public import proofs.«01_k».proof.Proof.Gen.Kernel4.Frame
public import proofs.«01_k».proof.Proof.Prod.K5
public import proofs.«01_k».proof.Proof.Gen.Kernel5.Frame
public import proofs.«01_k».proof.Proof.Prod.K6
public import proofs.«01_k».proof.Proof.Gen.Kernel6.Frame
public import proofs.«01_k».proof.Proof.Prod.K7
public import proofs.«01_k».proof.Proof.Gen.Kernel7.Frame
public import proofs.«01_k».proof.Proof.Prod.K8
public import proofs.«01_k».proof.Proof.Gen.Kernel8.Frame
public import proofs.«01_k».proof.Proof.Prod.K9
public import proofs.«01_k».proof.Proof.Gen.Kernel9.Frame
public import proofs.«01_k».proof.Proof.Prod.K10
public import proofs.«01_k».proof.Proof.Gen.Kernel10.Frame
public import proofs.«01_k».proof.Proof.Prod.K11
public import proofs.«01_k».proof.Proof.Gen.Kernel11.Frame
public import proofs.«01_k».proof.Proof.Prod.K12
public import proofs.«01_k».proof.Proof.Gen.Kernel12.Frame
public import proofs.«01_k».proof.Proof.Prod.K13
public import proofs.«01_k».proof.Proof.Gen.Kernel13.Frame
public import proofs.«01_k».proof.Proof.Prod.K14
public import proofs.«01_k».proof.Proof.Gen.Kernel14.Frame
public import proofs.«01_k».proof.Proof.Prod.K15
public import proofs.«01_k».proof.Proof.Gen.Kernel15.Frame
public import proofs.«01_k».proof.Proof.Prod.K16
public import proofs.«01_k».proof.Proof.Gen.Kernel16.Frame
public import proofs.«01_k».proof.Proof.Prod.K17
public import proofs.«01_k».proof.Proof.Gen.Kernel17.Frame
public import proofs.«01_k».proof.Proof.Prod.K18
public import proofs.«01_k».proof.Proof.Gen.Kernel18.Frame
public import proofs.«01_k».proof.Proof.Prod.K19
public import proofs.«01_k».proof.Proof.Gen.Kernel19.Frame
public import proofs.«01_k».proof.Proof.Prod.K20
public import proofs.«01_k».proof.Proof.Gen.Kernel20.Frame
public import proofs.«01_k».proof.Proof.Prod.K21
public import proofs.«01_k».proof.Proof.Gen.Kernel21.Frame
public import proofs.«01_k».proof.Proof.Prod.K22
public import proofs.«01_k».proof.Proof.Gen.Kernel22.Frame
public import proofs.«01_k».proof.Proof.Prod.K23
public import proofs.«01_k».proof.Proof.Gen.Kernel23.Frame
public import proofs.«01_k».proof.Proof.Prod.K24
public import proofs.«01_k».proof.Proof.Gen.Kernel24.Frame
public import proofs.«01_k».proof.Proof.Prod.K25
public import proofs.«01_k».proof.Proof.Gen.Kernel25.Frame
public import Idealize.ShloMosaic.Lib.Quiescent

@[expose] public section

set_option maxRecDepth 16384

noncomputable section

namespace Prod.Claims

open Idealize.ShloMosaic Idealize.ShloMosaic.TcCoe Idealize.SL.Sem

/-- A program without semaphores whose run leaves its arguments and gives a result also ends with every counter at zero. -/
theorem quiet {nD : ℕ} {τ : Topo} {sig : RefSig} {Val : EltTy → Type} {Λ : Labels} {defs : Defs nD τ sig Val Λ}
    {p : (c : Thread nD τ) → Prog (TpuEff nD τ sig Val Λ c.2) PUnit} {s : MemSt nD τ sig Val}
    {A B : PUnit × MemSt nD τ sig Val → Dev nD → Prop} (h0 : sig.nSem + sig.nDmaSem = 0)
    (h : θ_run defs p s fun r => ∀ c, A r c ∧ B r c) : θ_run defs p s fun r => (∀ c, B r c) ∧ r.2.sem = fun _ => 0 :=
  (θ_run defs p s).mono (fun r h => ⟨fun c => (h c).2, sem_eq_zero_of_no_sems h0 r.2⟩) h

/-- Two runs whose results are equal give one result. -/
theorem same {nD : ℕ} {τ τ' : Topo} {sig sig' : RefSig} {Val Val' : EltTy → Type} {Λ Λ' : Labels}
    {defs : Defs nD τ sig Val Λ} {p : (c : Thread nD τ) → Prog (TpuEff nD τ sig Val Λ c.2) PUnit} {s : MemSt nD τ sig Val}
    {defs' : Defs nD τ' sig' Val' Λ'} {p' : (c : Thread nD τ') → Prog (TpuEff nD τ' sig' Val' Λ' c.2) PUnit} {s' : MemSt nD τ' sig' Val'}
    {β : Dev nD → Type} {x : PUnit × MemSt nD τ sig Val → (c : Dev nD) → β c} {x' : PUnit × MemSt nD τ' sig' Val' → (c : Dev nD) → β c}
    {v v' : (c : Dev nD) → β c} {B : PUnit × MemSt nD τ sig Val → Dev nD → Prop} {B' : PUnit × MemSt nD τ' sig' Val' → Dev nD → Prop}
    (h : θ_run defs p s fun r => ∀ c, x r c = v c ∧ B r c) (h' : θ_run defs' p' s' fun r => ∀ c, x' r c = v' c ∧ B' r c)
    (e : ∀ c, v' c = v c) :
    ∃ w : (c : Dev nD) → β c, θ_run defs p s (fun r => ∀ c, x r c = w c ∧ B r c) ∧ θ_run defs' p' s' (fun r => ∀ c, x' r c = w c ∧ B' r c) :=
  ⟨v, h, (θ_run defs' p' s').mono (fun _ h c => ⟨(h c).1.trans (e c), (h c).2⟩) h'⟩

/-- The kernel of the feed-forward block's output product's gradient to its left operand runs to its end and leaves its arguments, -/
theorem frame_p2 : Cert.quiescent_Kernel2 := fun m ρ _ => Cert.Kernel2.Gen.frame m ρ
/-- over exact numbers too, -/
theorem frame_pi2 : Cert.quiescent_Kernel2Ideal := fun m ρ _ => Cert.Kernel2Ideal.Gen.frame m ρ
/-- its reference does, -/
theorem frame_ri2 : Cert.quiescent_Reference2Ideal := fun m ρ _ => quiet (by decide) (Cert.Reference2Ideal.Value.run (F := Ideal) m ρ)
/-- and the two compute the same. -/
theorem algebraic2 : Cert.algebraic_Kernel2Ideal_Reference2Ideal := fun m ρ m' ρ' _ ha =>
  same (Cert.Kernel2Ideal.Value.run_blocks (F := Ideal) m ρ) (Cert.Reference2Ideal.Value.run (F := Ideal) m' ρ')
    fun c => (congrArg₂ (Cert.Reference2Ideal.Read.val_main_v3 (F := Ideal)) (ha c).1 (ha c).2).trans (Prod.K2.final m c).symm

/-- The kernel of that product's weight gradient runs to its end and leaves its arguments, -/
theorem frame_p3 : Cert.quiescent_Kernel3 := fun m ρ _ => Cert.Kernel3.Gen.frame m ρ
/-- over exact numbers too, -/
theorem frame_pi3 : Cert.quiescent_Kernel3Ideal := fun m ρ _ => Cert.Kernel3Ideal.Gen.frame m ρ
/-- its reference does, -/
theorem frame_ri3 : Cert.quiescent_Reference3Ideal := fun m ρ _ => quiet (by decide) (Cert.Reference3Ideal.Value.run (F := Ideal) m ρ)
/-- and the two compute the same. -/
theorem algebraic3 : Cert.algebraic_Kernel3Ideal_Reference3Ideal := fun m ρ m' ρ' _ ha =>
  same (Cert.Kernel3Ideal.Value.run_blocks (F := Ideal) m ρ) (Cert.Reference3Ideal.Value.run (F := Ideal) m' ρ')
    fun c => (congrArg₂ (Cert.Reference3Ideal.Read.val_main_v6 (F := Ideal)) (ha c).1 (ha c).2).trans (Prod.K3.final m c).symm

/-- The kernel of the feed-forward block's input product's weight gradient runs to its end and leaves its arguments, -/
theorem frame_p4 : Cert.quiescent_Kernel4 := fun m ρ _ => Cert.Kernel4.Gen.frame m ρ
/-- over exact numbers too, -/
theorem frame_pi4 : Cert.quiescent_Kernel4Ideal := fun m ρ _ => Cert.Kernel4Ideal.Gen.frame m ρ
/-- its reference does, -/
theorem frame_ri4 : Cert.quiescent_Reference4Ideal := fun m ρ _ => quiet (by decide) (Cert.Reference4Ideal.Value.run (F := Ideal) m ρ)
/-- and the two compute the same. -/
theorem algebraic4 : Cert.algebraic_Kernel4Ideal_Reference4Ideal := fun m ρ m' ρ' _ ha =>
  same (Cert.Kernel4Ideal.Value.run_blocks (F := Ideal) m ρ) (Cert.Reference4Ideal.Value.run (F := Ideal) m' ρ')
    fun c => by rw [Cert.Reference4Ideal.Read.val_main_v27_eq]; exact (congrArg₂ (Cert.Reference4Ideal.Read.val_main_v27 (F := Ideal)) (ha c).1 (ha c).2).trans (Prod.K4.final m c).symm

/-- The kernel of that product's gradient to its left operand runs to its end and leaves its arguments, -/
theorem frame_p5 : Cert.quiescent_Kernel5 := fun m ρ _ => Cert.Kernel5.Gen.frame m ρ
/-- over exact numbers too, -/
theorem frame_pi5 : Cert.quiescent_Kernel5Ideal := fun m ρ _ => Cert.Kernel5Ideal.Gen.frame m ρ
/-- its reference does, -/
theorem frame_ri5 : Cert.quiescent_Reference5Ideal := fun m ρ _ => quiet (by decide) (Cert.Reference5Ideal.Value.run (F := Ideal) m ρ)
/-- and the two compute the same. -/
theorem algebraic5 : Cert.algebraic_Kernel5Ideal_Reference5Ideal := fun m ρ m' ρ' _ ha =>
  same (Cert.Kernel5Ideal.Value.run_blocks (F := Ideal) m ρ) (Cert.Reference5Ideal.Value.run (F := Ideal) m' ρ')
    fun c => (congrArg₂ (Cert.Reference5Ideal.Read.val_main_v15 (F := Ideal)) (ha c).1 (ha c).2).trans (Prod.K5.final m c).symm

/-- The kernel of the feed-forward block's input product runs to its end and leaves its arguments, -/
theorem frame_p6 : Cert.quiescent_Kernel6 := fun m ρ _ => Cert.Kernel6.Gen.frame m ρ
/-- over exact numbers too, -/
theorem frame_pi6 : Cert.quiescent_Kernel6Ideal := fun m ρ _ => Cert.Kernel6Ideal.Gen.frame m ρ
/-- its reference does, -/
theorem frame_ri6 : Cert.quiescent_Reference6Ideal := fun m ρ _ => quiet (by decide) (Cert.Reference6Ideal.Value.run (F := Ideal) m ρ)
/-- and the two compute the same. -/
theorem algebraic6 : Cert.algebraic_Kernel6Ideal_Reference6Ideal := fun m ρ m' ρ' _ ha =>
  same (Cert.Kernel6Ideal.Value.run_blocks (F := Ideal) m ρ) (Cert.Reference6Ideal.Value.run (F := Ideal) m' ρ')
    fun c => (congrArg₂ (Cert.Reference6Ideal.Read.val_main_v6 (F := Ideal)) (ha c).1 (ha c).2).trans (Prod.K6.final m c).symm

/-- The kernel of the feed-forward block's output product runs to its end and leaves its arguments, -/
theorem frame_p7 : Cert.quiescent_Kernel7 := fun m ρ _ => Cert.Kernel7.Gen.frame m ρ
/-- over exact numbers too, -/
theorem frame_pi7 : Cert.quiescent_Kernel7Ideal := fun m ρ _ => Cert.Kernel7Ideal.Gen.frame m ρ
/-- its reference does, -/
theorem frame_ri7 : Cert.quiescent_Reference7Ideal := fun m ρ _ => quiet (by decide) (Cert.Reference7Ideal.Value.run (F := Ideal) m ρ)
/-- and the two compute the same. -/
theorem algebraic7 : Cert.algebraic_Kernel7Ideal_Reference7Ideal := fun m ρ m' ρ' _ ha =>
  same (Cert.Kernel7Ideal.Value.run_blocks (F := Ideal) m ρ) (Cert.Reference7Ideal.Value.run (F := Ideal) m' ρ')
    fun c => (congrArg₂ (Cert.Reference7Ideal.Read.val_main_v1 (F := Ideal)) (ha c).1 (ha c).2).trans (Prod.K7.final m c).symm

/-- The kernel of the output product of the recurrence and of the gating unit runs to its end and leaves its arguments, -/
theorem frame_p8 : Cert.quiescent_Kernel8 := fun m ρ _ => Cert.Kernel8.Gen.frame m ρ
/-- over exact numbers too, -/
theorem frame_pi8 : Cert.quiescent_Kernel8Ideal := fun m ρ _ => Cert.Kernel8Ideal.Gen.frame m ρ
/-- its reference does, -/
theorem frame_ri8 : Cert.quiescent_Reference8Ideal := fun m ρ _ => quiet (by decide) (Cert.Reference8Ideal.Value.run (F := Ideal) m ρ)
/-- and the two compute the same. -/
theorem algebraic8 : Cert.algebraic_Kernel8Ideal_Reference8Ideal := fun m ρ m' ρ' _ ha =>
  same (Cert.Kernel8Ideal.Value.run_blocks (F := Ideal) m ρ) (Cert.Reference8Ideal.Value.run (F := Ideal) m' ρ')
    fun c => (congrArg₂ (Cert.Reference8Ideal.Read.val_main_v1 (F := Ideal)) (ha c).1 (ha c).2).trans (Prod.K8.final m c).symm

/-- The kernel of that product's gradient to its left operand runs to its end and leaves its arguments, -/
theorem frame_p9 : Cert.quiescent_Kernel9 := fun m ρ _ => Cert.Kernel9.Gen.frame m ρ
/-- over exact numbers too, -/
theorem frame_pi9 : Cert.quiescent_Kernel9Ideal := fun m ρ _ => Cert.Kernel9Ideal.Gen.frame m ρ
/-- its reference does, -/
theorem frame_ri9 : Cert.quiescent_Reference9Ideal := fun m ρ _ => quiet (by decide) (Cert.Reference9Ideal.Value.run (F := Ideal) m ρ)
/-- and the two compute the same. -/
theorem algebraic9 : Cert.algebraic_Kernel9Ideal_Reference9Ideal := fun m ρ m' ρ' _ ha =>
  same (Cert.Kernel9Ideal.Value.run_blocks (F := Ideal) m ρ) (Cert.Reference9Ideal.Value.run (F := Ideal) m' ρ')
    fun c => (congrArg₂ (Cert.Reference9Ideal.Read.val_main_v3 (F := Ideal)) (ha c).1 (ha c).2).trans (Prod.K9.final m c).symm

/-- The kernel of that product's weight gradient runs to its end and leaves its arguments, -/
theorem frame_p10 : Cert.quiescent_Kernel10 := fun m ρ _ => Cert.Kernel10.Gen.frame m ρ
/-- over exact numbers too, -/
theorem frame_pi10 : Cert.quiescent_Kernel10Ideal := fun m ρ _ => Cert.Kernel10Ideal.Gen.frame m ρ
/-- its reference does, -/
theorem frame_ri10 : Cert.quiescent_Reference10Ideal := fun m ρ _ => quiet (by decide) (Cert.Reference10Ideal.Value.run (F := Ideal) m ρ)
/-- and the two compute the same. -/
theorem algebraic10 : Cert.algebraic_Kernel10Ideal_Reference10Ideal := fun m ρ m' ρ' _ ha =>
  same (Cert.Kernel10Ideal.Value.run_blocks (F := Ideal) m ρ) (Cert.Reference10Ideal.Value.run (F := Ideal) m' ρ')
    fun c => (congrArg₂ (Cert.Reference10Ideal.Read.val_main_v6 (F := Ideal)) (ha c).1 (ha c).2).trans (Prod.K10.final m c).symm

/-- The kernel of the gating unit's input product runs to its end and leaves its arguments, -/
theorem frame_p11 : Cert.quiescent_Kernel11 := fun m ρ _ => Cert.Kernel11.Gen.frame m ρ
/-- over exact numbers too, -/
theorem frame_pi11 : Cert.quiescent_Kernel11Ideal := fun m ρ _ => Cert.Kernel11Ideal.Gen.frame m ρ
/-- its reference does, -/
theorem frame_ri11 : Cert.quiescent_Reference11Ideal := fun m ρ _ => quiet (by decide) (Cert.Reference11Ideal.Value.run (F := Ideal) m ρ)
/-- and the two compute the same. -/
theorem algebraic11 : Cert.algebraic_Kernel11Ideal_Reference11Ideal := fun m ρ m' ρ' _ ha =>
  same (Cert.Kernel11Ideal.Value.run_blocks (F := Ideal) m ρ) (Cert.Reference11Ideal.Value.run (F := Ideal) m' ρ')
    fun c => (congrArg₂ (Cert.Reference11Ideal.Read.val_main_v1 (F := Ideal)) (ha c).1 (ha c).2).trans (Prod.K11.final m c).symm

/-- The kernel of that product's gradient to its left operand runs to its end and leaves its arguments, -/
theorem frame_p12 : Cert.quiescent_Kernel12 := fun m ρ _ => Cert.Kernel12.Gen.frame m ρ
/-- over exact numbers too, -/
theorem frame_pi12 : Cert.quiescent_Kernel12Ideal := fun m ρ _ => Cert.Kernel12Ideal.Gen.frame m ρ
/-- its reference does, -/
theorem frame_ri12 : Cert.quiescent_Reference12Ideal := fun m ρ _ => quiet (by decide) (Cert.Reference12Ideal.Value.run (F := Ideal) m ρ)
/-- and the two compute the same. -/
theorem algebraic12 : Cert.algebraic_Kernel12Ideal_Reference12Ideal := fun m ρ m' ρ' _ ha =>
  same (Cert.Kernel12Ideal.Value.run_blocks (F := Ideal) m ρ) (Cert.Reference12Ideal.Value.run (F := Ideal) m' ρ')
    fun c => (congrArg₂ (Cert.Reference12Ideal.Read.val_main_v3 (F := Ideal)) (ha c).1 (ha c).2).trans (Prod.K12.final m c).symm

/-- The kernel of that product's weight gradient runs to its end and leaves its arguments, -/
theorem frame_p13 : Cert.quiescent_Kernel13 := fun m ρ _ => Cert.Kernel13.Gen.frame m ρ
/-- over exact numbers too, -/
theorem frame_pi13 : Cert.quiescent_Kernel13Ideal := fun m ρ _ => Cert.Kernel13Ideal.Gen.frame m ρ
/-- its reference does, -/
theorem frame_ri13 : Cert.quiescent_Reference13Ideal := fun m ρ _ => quiet (by decide) (Cert.Reference13Ideal.Value.run (F := Ideal) m ρ)
/-- and the two compute the same. -/
theorem algebraic13 : Cert.algebraic_Kernel13Ideal_Reference13Ideal := fun m ρ m' ρ' _ ha =>
  same (Cert.Kernel13Ideal.Value.run_blocks (F := Ideal) m ρ) (Cert.Reference13Ideal.Value.run (F := Ideal) m' ρ')
    fun c => by rw [Cert.Reference13Ideal.Read.val_main_v15_eq]; exact (congrArg₂ (Cert.Reference13Ideal.Read.val_main_v15 (F := Ideal)) (ha c).1 (ha c).2).trans (Prod.K13.final m c).symm

/-- The kernel of the recurrence's input product, gate columns runs to its end and leaves its arguments, -/
theorem frame_p14 : Cert.quiescent_Kernel14 := fun m ρ _ => Cert.Kernel14.Gen.frame m ρ
/-- over exact numbers too, -/
theorem frame_pi14 : Cert.quiescent_Kernel14Ideal := fun m ρ _ => Cert.Kernel14Ideal.Gen.frame m ρ
/-- its reference does, -/
theorem frame_ri14 : Cert.quiescent_Reference14Ideal := fun m ρ _ => quiet (by decide) (Cert.Reference14Ideal.Value.run (F := Ideal) m ρ)
/-- and the two compute the same. -/
theorem algebraic14 : Cert.algebraic_Kernel14Ideal_Reference14Ideal := fun m ρ m' ρ' _ ha =>
  same (Cert.Kernel14Ideal.Value.run_blocks (F := Ideal) m ρ) (Cert.Reference14Ideal.Value.run (F := Ideal) m' ρ')
    fun c => (congrArg₂ (Cert.Reference14Ideal.Read.val_main_v2 (F := Ideal)) (ha c).1 (ha c).2).trans (Prod.K14.final m c).symm

/-- The kernel of those columns' gradient to the left operand runs to its end and leaves its arguments, -/
theorem frame_p15 : Cert.quiescent_Kernel15 := fun m ρ _ => Cert.Kernel15.Gen.frame m ρ
/-- over exact numbers too, -/
theorem frame_pi15 : Cert.quiescent_Kernel15Ideal := fun m ρ _ => Cert.Kernel15Ideal.Gen.frame m ρ
/-- its reference does, -/
theorem frame_ri15 : Cert.quiescent_Reference15Ideal := fun m ρ _ => quiet (by decide) (Cert.Reference15Ideal.Value.run (F := Ideal) m ρ)
/-- and the two compute the same. -/
theorem algebraic15 : Cert.algebraic_Kernel15Ideal_Reference15Ideal := fun m ρ m' ρ' _ ha =>
  same (Cert.Kernel15Ideal.Value.run_blocks (F := Ideal) m ρ) (Cert.Reference15Ideal.Value.run (F := Ideal) m' ρ')
    fun c => (congrArg₂ (Cert.Reference15Ideal.Read.val_main_v4 (F := Ideal)) (ha c).1 (ha c).2).trans (Prod.K15.final m c).symm

/-- The kernel of those columns' weight gradient runs to its end and leaves its arguments, -/
theorem frame_p16 : Cert.quiescent_Kernel16 := fun m ρ _ => Cert.Kernel16.Gen.frame m ρ
/-- over exact numbers too, -/
theorem frame_pi16 : Cert.quiescent_Kernel16Ideal := fun m ρ _ => Cert.Kernel16Ideal.Gen.frame m ρ
/-- its reference does, -/
theorem frame_ri16 : Cert.quiescent_Reference16Ideal := fun m ρ _ => quiet (by decide) (Cert.Reference16Ideal.Value.run (F := Ideal) m ρ)
/-- and the two compute the same. -/
theorem algebraic16 : Cert.algebraic_Kernel16Ideal_Reference16Ideal := fun m ρ m' ρ' _ ha =>
  same (Cert.Kernel16Ideal.Value.run_blocks (F := Ideal) m ρ) (Cert.Reference16Ideal.Value.run (F := Ideal) m' ρ')
    fun c => (congrArg₂ (Cert.Reference16Ideal.Read.val_main_v6 (F := Ideal)) (ha c).1 (ha c).2).trans (Prod.K16.final m c).symm

/-- The kernel of the recurrence's input product, convolution columns runs to its end and leaves its arguments, -/
theorem frame_p17 : Cert.quiescent_Kernel17 := fun m ρ _ => Cert.Kernel17.Gen.frame m ρ
/-- over exact numbers too, -/
theorem frame_pi17 : Cert.quiescent_Kernel17Ideal := fun m ρ _ => Cert.Kernel17Ideal.Gen.frame m ρ
/-- its reference does, -/
theorem frame_ri17 : Cert.quiescent_Reference17Ideal := fun m ρ _ => quiet (by decide) (Cert.Reference17Ideal.Value.run (F := Ideal) m ρ)
/-- and the two compute the same. -/
theorem algebraic17 : Cert.algebraic_Kernel17Ideal_Reference17Ideal := fun m ρ m' ρ' _ ha =>
  same (Cert.Kernel17Ideal.Value.run_blocks (F := Ideal) m ρ) (Cert.Reference17Ideal.Value.run (F := Ideal) m' ρ')
    fun c => (congrArg₂ (Cert.Reference17Ideal.Read.val_main_v2 (F := Ideal)) (ha c).1 (ha c).2).trans (Prod.K17.final m c).symm

/-- The kernel of those columns' gradient to the left operand, added to the gate columns' runs to its end and leaves its arguments, -/
theorem frame_p18 : Cert.quiescent_Kernel18 := fun m ρ _ => Cert.Kernel18.Gen.frame m ρ
/-- over exact numbers too, -/
theorem frame_pi18 : Cert.quiescent_Kernel18Ideal := fun m ρ _ => Cert.Kernel18Ideal.Gen.frame m ρ
/-- its reference does, -/
theorem frame_ri18 : Cert.quiescent_Reference18Ideal := fun m ρ _ => quiet (by decide) (Cert.Reference18Ideal.Value.run (F := Ideal) m ρ)
/-- and the two compute the same. -/
theorem algebraic18 : Cert.algebraic_Kernel18Ideal_Reference18Ideal := fun m ρ m' ρ' _ ha =>
  same (Cert.Kernel18Ideal.Value.run_blocks (F := Ideal) m ρ) (Cert.Reference18Ideal.Value.run (F := Ideal) m' ρ')
    fun c => (congr (congrArg₂ (Cert.Reference18Ideal.Read.val_main_v5 (F := Ideal)) (ha c).1 (ha c).2.1) (ha c).2.2).trans (Prod.K18.final m c).symm

/-- The kernel of those columns' weight gradient runs to its end and leaves its arguments, -/
theorem frame_p19 : Cert.quiescent_Kernel19 := fun m ρ _ => Cert.Kernel19.Gen.frame m ρ
/-- over exact numbers too, -/
theorem frame_pi19 : Cert.quiescent_Kernel19Ideal := fun m ρ _ => Cert.Kernel19Ideal.Gen.frame m ρ
/-- its reference does, -/
theorem frame_ri19 : Cert.quiescent_Reference19Ideal := fun m ρ _ => quiet (by decide) (Cert.Reference19Ideal.Value.run (F := Ideal) m ρ)
/-- and the two compute the same. -/
theorem algebraic19 : Cert.algebraic_Kernel19Ideal_Reference19Ideal := fun m ρ m' ρ' _ ha =>
  same (Cert.Kernel19Ideal.Value.run_blocks (F := Ideal) m ρ) (Cert.Reference19Ideal.Value.run (F := Ideal) m' ρ')
    fun c => (congrArg₂ (Cert.Reference19Ideal.Read.val_main_v6 (F := Ideal)) (ha c).1 (ha c).2).trans (Prod.K19.final m c).symm

/-- The kernel of the stick-breaking attention's input product runs to its end and leaves its arguments, -/
theorem frame_p20 : Cert.quiescent_Kernel20 := fun m ρ _ => Cert.Kernel20.Gen.frame m ρ
/-- over exact numbers too, -/
theorem frame_pi20 : Cert.quiescent_Kernel20Ideal := fun m ρ _ => Cert.Kernel20Ideal.Gen.frame m ρ
/-- its reference does, -/
theorem frame_ri20 : Cert.quiescent_Reference20Ideal := fun m ρ _ => quiet (by decide) (Cert.Reference20Ideal.Value.run (F := Ideal) m ρ)
/-- and the two compute the same. -/
theorem algebraic20 : Cert.algebraic_Kernel20Ideal_Reference20Ideal := fun m ρ m' ρ' _ ha =>
  same (Cert.Kernel20Ideal.Value.run_blocks (F := Ideal) m ρ) (Cert.Reference20Ideal.Value.run (F := Ideal) m' ρ')
    fun c => (congrArg₂ (Cert.Reference20Ideal.Read.val_main_v2 (F := Ideal)) (ha c).1 (ha c).2).trans (Prod.K20.final m c).symm

/-- The kernel of that product's gradient to its left operand runs to its end and leaves its arguments, -/
theorem frame_p21 : Cert.quiescent_Kernel21 := fun m ρ _ => Cert.Kernel21.Gen.frame m ρ
/-- over exact numbers too, -/
theorem frame_pi21 : Cert.quiescent_Kernel21Ideal := fun m ρ _ => Cert.Kernel21Ideal.Gen.frame m ρ
/-- its reference does, -/
theorem frame_ri21 : Cert.quiescent_Reference21Ideal := fun m ρ _ => quiet (by decide) (Cert.Reference21Ideal.Value.run (F := Ideal) m ρ)
/-- and the two compute the same. -/
theorem algebraic21 : Cert.algebraic_Kernel21Ideal_Reference21Ideal := fun m ρ m' ρ' _ ha =>
  same (Cert.Kernel21Ideal.Value.run_blocks (F := Ideal) m ρ) (Cert.Reference21Ideal.Value.run (F := Ideal) m' ρ')
    fun c => (congrArg₂ (Cert.Reference21Ideal.Read.val_main_v3 (F := Ideal)) (ha c).1 (ha c).2).trans (Prod.K21.final m c).symm

/-- The kernel of that product's weight gradient runs to its end and leaves its arguments, -/
theorem frame_p22 : Cert.quiescent_Kernel22 := fun m ρ _ => Cert.Kernel22.Gen.frame m ρ
/-- over exact numbers too, -/
theorem frame_pi22 : Cert.quiescent_Kernel22Ideal := fun m ρ _ => Cert.Kernel22Ideal.Gen.frame m ρ
/-- its reference does, -/
theorem frame_ri22 : Cert.quiescent_Reference22Ideal := fun m ρ _ => quiet (by decide) (Cert.Reference22Ideal.Value.run (F := Ideal) m ρ)
/-- and the two compute the same. -/
theorem algebraic22 : Cert.algebraic_Kernel22Ideal_Reference22Ideal := fun m ρ m' ρ' _ ha =>
  same (Cert.Kernel22Ideal.Value.run_blocks (F := Ideal) m ρ) (Cert.Reference22Ideal.Value.run (F := Ideal) m' ρ')
    fun c => by rw [Cert.Reference22Ideal.Read.val_main_v15_eq]; exact (congrArg₂ (Cert.Reference22Ideal.Read.val_main_v15 (F := Ideal)) (ha c).1 (ha c).2).trans (Prod.K22.final m c).symm

/-- The kernel of the stick-breaking attention's output product runs to its end and leaves its arguments, -/
theorem frame_p23 : Cert.quiescent_Kernel23 := fun m ρ _ => Cert.Kernel23.Gen.frame m ρ
/-- over exact numbers too, -/
theorem frame_pi23 : Cert.quiescent_Kernel23Ideal := fun m ρ _ => Cert.Kernel23Ideal.Gen.frame m ρ
/-- its reference does, -/
theorem frame_ri23 : Cert.quiescent_Reference23Ideal := fun m ρ _ => quiet (by decide) (Cert.Reference23Ideal.Value.run (F := Ideal) m ρ)
/-- and the two compute the same. -/
theorem algebraic23 : Cert.algebraic_Kernel23Ideal_Reference23Ideal := fun m ρ m' ρ' _ ha =>
  same (Cert.Kernel23Ideal.Value.run_blocks (F := Ideal) m ρ) (Cert.Reference23Ideal.Value.run (F := Ideal) m' ρ')
    fun c => (congrArg₂ (Cert.Reference23Ideal.Read.val_main_v1 (F := Ideal)) (ha c).1 (ha c).2).trans (Prod.K23.final m c).symm

/-- The kernel of that product's gradient to its left operand runs to its end and leaves its arguments, -/
theorem frame_p24 : Cert.quiescent_Kernel24 := fun m ρ _ => Cert.Kernel24.Gen.frame m ρ
/-- over exact numbers too, -/
theorem frame_pi24 : Cert.quiescent_Kernel24Ideal := fun m ρ _ => Cert.Kernel24Ideal.Gen.frame m ρ
/-- its reference does, -/
theorem frame_ri24 : Cert.quiescent_Reference24Ideal := fun m ρ _ => quiet (by decide) (Cert.Reference24Ideal.Value.run (F := Ideal) m ρ)
/-- and the two compute the same. -/
theorem algebraic24 : Cert.algebraic_Kernel24Ideal_Reference24Ideal := fun m ρ m' ρ' _ ha =>
  same (Cert.Kernel24Ideal.Value.run_blocks (F := Ideal) m ρ) (Cert.Reference24Ideal.Value.run (F := Ideal) m' ρ')
    fun c => (congrArg₂ (Cert.Reference24Ideal.Read.val_main_v4 (F := Ideal)) (ha c).1 (ha c).2).trans (Prod.K24.final m c).symm

/-- The kernel of that product's weight gradient runs to its end and leaves its arguments, -/
theorem frame_p25 : Cert.quiescent_Kernel25 := fun m ρ _ => Cert.Kernel25.Gen.frame m ρ
/-- over exact numbers too, -/
theorem frame_pi25 : Cert.quiescent_Kernel25Ideal := fun m ρ _ => Cert.Kernel25Ideal.Gen.frame m ρ
/-- its reference does, -/
theorem frame_ri25 : Cert.quiescent_Reference25Ideal := fun m ρ _ => quiet (by decide) (Cert.Reference25Ideal.Value.run (F := Ideal) m ρ)
/-- and the two compute the same. -/
theorem algebraic25 : Cert.algebraic_Kernel25Ideal_Reference25Ideal := fun m ρ m' ρ' _ ha =>
  same (Cert.Kernel25Ideal.Value.run_blocks (F := Ideal) m ρ) (Cert.Reference25Ideal.Value.run (F := Ideal) m' ρ')
    fun c => (congrArg₂ (Cert.Reference25Ideal.Read.val_main_v6 (F := Ideal)) (ha c).1 (ha c).2).trans (Prod.K25.final m c).symm

end Prod.Claims
end
-- ==== Proof.Xa.Spec.lean ====
/- One head of cross attention and its gradient over the real numbers: the arrays that the kernel's and the reference's
   results are compared with. -/
module

public import proofs.«01_k».proof.Proof.Sgu.Spec

@[expose] public section

noncomputable section

namespace Xa

open Idealize.ShloMosaic
open Sgu (coe_sum coe_div)

/-- The pattern of the scale of the scores, 128 to the power of minus one half, rounded to f32. -/
def sc : ℝ := 11863283 / 134217728

theorem lit_sc : Ideal.ofBits .f32 0x3DB504F3#32 = ((sc : ℝ) : EReal) := by
  unfold sc; simp [Ideal.ofBits, Ideal.ieee, -EReal.coe_mul]; norm_num
theorem lit_bot : Ideal.ofBits .f32 0xFF800000#32 = (⊥ : EReal) := by
  simp [Ideal.ofBits, Ideal.ieee]

variable {n : ℕ} (Q G : Fin n → Fin 128 → ℝ) (K V : Fin 256 → Fin 128 → ℝ)

/-- The score of a row against a memory slot. -/
def sco (x : Fin n) (m : Fin 256) : ℝ := (∑ d, Q x d * K m d) * sc
/-- The weight of a memory slot: the softmax of a row's scores. -/
def prb (x : Fin n) (m : Fin 256) : ℝ := Real.exp (sco Q K x m) / ∑ k, Real.exp (sco Q K x k)
/-- The cotangent of a weight. -/
def dpr (x : Fin n) (m : Fin 256) : ℝ := ∑ d, G x d * V m d
/-- The cotangent of a row's product with a slot. -/
def dsc (x : Fin n) (m : Fin 256) : ℝ := prb Q K x m * (dpr G V x m - ∑ k, dpr G V x k * prb Q K x k) * sc
/-- The gradient of the queries. -/
def dqr (x : Fin n) (d : Fin 128) : ℝ := ∑ m, dsc Q G K V x m * K m d
/-- The gradient of the keys. -/
def dky (m : Fin 256) (d : Fin 128) : ℝ := ∑ x, dsc Q G K V x m * Q x d
/-- The gradient of the values. -/
def dvl (m : Fin 256) (d : Fin 128) : ℝ := ∑ x, prb Q K x m * G x d

/-- A row's sum of exponentials is positive, whatever is subtracted from the scores. -/
theorem sum_pos (x : Fin n) (M : ℝ) : 0 < ∑ k, Real.exp (sco Q K x k - M) :=
  Finset.sum_pos (fun k _ => Real.exp_pos _) ⟨0, Finset.mem_univ _⟩

/-- The softmax does not depend on what is subtracted from the scores. -/
theorem prb_sub (x : Fin n) (m : Fin 256) (M : ℝ) :
    Real.exp (sco Q K x m - M) / ∑ k, Real.exp (sco Q K x k - M) = prb Q K x m := by
  have h := sum_pos Q K x 0
  simp only [sub_zero] at h
  simp only [Real.exp_sub, ← Finset.sum_div, prb]
  rw [div_div_div_cancel_right₀ (Real.exp_pos M).ne']

/-- The cotangent of the scores as a chain rule through the quotient gives it. -/
theorem dsc_quot (x : Fin n) (m : Fin 256) (M l : ℝ) (hl : l = ∑ k, Real.exp (sco Q K x k - M)) :
    (dpr G V x m / l + -∑ k, dpr G V x k * (1 / (l * l)) * Real.exp (sco Q K x k - M)) * Real.exp (sco Q K x m - M) * sc
      = dsc Q G K V x m := by
  have h : 0 < l := hl ▸ sum_pos Q K x M
  simp only [dsc, ← prb_sub Q K x _ M, ← hl]
  have e : ∑ k, dpr G V x k * (Real.exp (sco Q K x k - M) / l) = (∑ k, dpr G V x k * (1 / (l * l)) * Real.exp (sco Q K x k - M)) * l := by
    rw [Finset.sum_mul]
    exact Finset.sum_congr rfl fun k _ => by field_simp
  rw [e]
  field_simp
  ring

/-- The greatest of finitely many reals, taken in the extended reals, is a real. -/
theorem fold_max {ι : Type} (f : ι → ℝ) (s : Finset ι) (hs : s.Nonempty) :
    ∃ M : ℝ, s.fold max (⊥ : EReal) (fun k => (f k : EReal)) = (M : EReal) := by
  classical
  induction hs using Finset.Nonempty.cons_induction with
  | singleton a => exact ⟨f a, by simp⟩
  | cons a s h hs ih =>
    obtain ⟨M, hM⟩ := ih
    exact ⟨max (f a) M, by rw [Finset.fold_cons, hM]; exact (EReal.coe_strictMono.monotone.map_max).symm⟩

/-! ## Coordinates -/

/-- The arguments as real arrays. -/
structure Args where
  q : Fin 4096 → Fin 512 → ℝ
  kv : Fin 256 → Fin 1024 → ℝ
  go : Fin 4096 → Fin 512 → ℝ

/-- Column `d` of head `h`. -/
def col (h : Fin 4) (d : Fin 128) : Fin 512 := ⟨h.val * 128 + d.val, by omega⟩
/-- Column `d` of head `h` among the keys. -/
def kcol (h : Fin 4) (d : Fin 128) : Fin 1024 := ⟨h.val * 128 + d.val, by omega⟩
/-- Column `d` of head `h` among the values. -/
def vcol (h : Fin 4) (d : Fin 128) : Fin 1024 := ⟨512 + h.val * 128 + d.val, by omega⟩
/-- Row `x` of grid point `k`. -/
def row (k : Fin 8) (x : Fin 512) : Fin 4096 := ⟨k.val * 512 + x.val, by omega⟩
/-- The head of a column. -/
def hd (j : ℕ) : Fin 4 := ⟨j / 128 % 4, by omega⟩
/-- The place of a column in its head. -/
def di (j : ℕ) : Fin 128 := ⟨j % 128, by omega⟩

variable (a : Args) (h : Fin 4)

/-- The queries of a head. -/
def hq (i : Fin 4096) (d : Fin 128) : ℝ := a.q i (col h d)
/-- The incoming gradient of a head. -/
def hg (i : Fin 4096) (d : Fin 128) : ℝ := a.go i (col h d)
/-- The keys of a head. -/
def hk (m : Fin 256) (d : Fin 128) : ℝ := a.kv m (kcol h d)
/-- The values of a head. -/
def hv (m : Fin 256) (d : Fin 128) : ℝ := a.kv m (vcol h d)

/-- The gradient of the queries. -/
def dq (i : Fin 4096) (j : Fin 512) : ℝ := dqr (hq a (hd j)) (hg a (hd j)) (hk a (hd j)) (hv a (hd j)) i (di j)
/-- The gradient of the keys and of the values, side by side. -/
def dkv (m : Fin 256) (j : Fin 1024) : ℝ :=
  if j.val < 512 then dky (hq a (hd j)) (hg a (hd j)) (hk a (hd j)) (hv a (hd j)) m (di j)
  else dvl (hq a (hd j)) (hg a (hd j)) (hk a (hd j)) m (di j)

/-- A sum over all rows, grid point by grid point. -/
theorem sum_row (f : Fin 4096 → ℝ) : ∑ i, f i = ∑ k, ∑ x, f (row k x) := Fin.sum_univ_tiles 8 512 rfl f

end Xa
end
-- ==== Proof.Xa.Pay.lean ====
/- The values that one head of the kernel computes on a block of rows, as real arrays. -/
module

public import proofs.«01_k».proof.Proof.Xa.Spec
public import proofs.«01_k».proof.Proof.Gen.Kernel26Ideal.Value
public import Idealize.ShloMosaic.Lib.Pipeline.ValueKit

@[expose] public section

set_option maxRecDepth 16384

noncomputable section

namespace Xa.Ker

open Cert.Kernel26Ideal Cert.Kernel26Ideal.Gen Idealize.ShloMosaic Idealize.ShloMosaic.TcCoe
open Sgu (coe_sum coe_div)

variable (Q G : Fin 512 → Fin 128 → ℝ) (K V : Fin 256 → Fin 128 → ℝ)
variable (q : FVec Ideal S512x128 .bf16) (k v : FVec Ideal S256x128 .bf16) (g : FVec Ideal S512x128 .f32)

/-- The weights. -/
theorem prb_at (hq : ∀ x d, q (ix2 x d) = ((Q x d : ℝ) : EReal)) (hk : ∀ x d, k (ix2 x d) = ((K x d : ℝ) : EReal))
    (x : Fin 512) (m : Fin 256) : (k0_pay8 q k : FVec Ideal S512x256 .f32) (ix2 x m) = ((prb Q K x m : ℝ) : EReal) := by
  pointwise [k0_pay8, hq, hk, lit_sc, lit_bot]
  simp only [← EReal.coe_mul, ← coe_sum]
  obtain ⟨M, hM⟩ := fold_max (fun m => sco Q K x m) Finset.univ ⟨0, Finset.mem_univ _⟩
  unfold sco at hM
  simp only [hM, ← EReal.coe_sub, Ideal.exp_coe, ← coe_sum]
  refine (coe_div _ _ (sum_pos Q K x M).ne').trans ?_
  exact congrArg _ (prb_sub Q K x m M)

/-- The cotangent of the scores. -/
theorem dsc_at (hq : ∀ x d, q (ix2 x d) = ((Q x d : ℝ) : EReal)) (hk : ∀ x d, k (ix2 x d) = ((K x d : ℝ) : EReal))
    (hv : ∀ x d, v (ix2 x d) = ((V x d : ℝ) : EReal)) (hg : ∀ x d, g (ix2 x d) = ((G x d : ℝ) : EReal))
    (x : Fin 512) (m : Fin 256) : (k0_pay9 q k v g : FVec Ideal S512x256 .bf16) (ix2 x m) = ((dsc Q G K V x m : ℝ) : EReal) := by
  pointwise [k0_pay9, k0_pay7, prb_at Q K q k hq hk, hv, hg, lit_sc]
  simp only [← EReal.coe_mul, ← coe_sum, ← EReal.coe_sub]
  rfl

/-- The gradient of the queries. -/
theorem dqr_at (hq : ∀ x d, q (ix2 x d) = ((Q x d : ℝ) : EReal)) (hk : ∀ x d, k (ix2 x d) = ((K x d : ℝ) : EReal))
    (hv : ∀ x d, v (ix2 x d) = ((V x d : ℝ) : EReal)) (hg : ∀ x d, g (ix2 x d) = ((G x d : ℝ) : EReal))
    (x : Fin 512) (d : Fin 128) : (k0_pay10 q k v g : FVec Ideal S512x128 .bf16) (ix2 x d) = ((dqr Q G K V x d : ℝ) : EReal) := by
  pointwise [k0_pay10, dsc_at Q G K V q k v g hq hk hv hg, hk]
  simp only [← EReal.coe_mul, ← coe_sum]
  rfl

/-- What is added to the gradient of the keys. -/
theorem dky_at (hq : ∀ x d, q (ix2 x d) = ((Q x d : ℝ) : EReal)) (hk : ∀ x d, k (ix2 x d) = ((K x d : ℝ) : EReal))
    (hv : ∀ x d, v (ix2 x d) = ((V x d : ℝ) : EReal)) (hg : ∀ x d, g (ix2 x d) = ((G x d : ℝ) : EReal))
    (b : FVec Ideal S256x128 .f32) (m : Fin 256) (d : Fin 128) :
    (k0_pay12 q (k0_pay9 q k v g) (k0_pay11 b) : FVec Ideal S256x128 .f32) (ix2 m d) = b (ix2 m d) + ((dky Q G K V m d : ℝ) : EReal) := by
  pointwise [k0_pay12, k0_pay11, dsc_at Q G K V q k v g hq hk hv hg, hq]
  simp only [← EReal.coe_mul, ← coe_sum]
  rfl

/-- What is added to the gradient of the values. -/
theorem dvl_at (hq : ∀ x d, q (ix2 x d) = ((Q x d : ℝ) : EReal)) (hk : ∀ x d, k (ix2 x d) = ((K x d : ℝ) : EReal))
    (hg : ∀ x d, g (ix2 x d) = ((G x d : ℝ) : EReal))
    (b : FVec Ideal S256x128 .f32) (m : Fin 256) (d : Fin 128) :
    (k0_pay13 (k0_pay7 g) (k0_pay8 q k) b : FVec Ideal S256x128 .f32) (ix2 m d) = b (ix2 m d) + ((dvl Q G K m d : ℝ) : EReal) := by
  pointwise [k0_pay13, k0_pay7, prb_at Q K q k hq hk, hg]
  simp only [← EReal.coe_mul, ← coe_sum]
  rfl

end Xa.Ker
end
-- ==== Proof.Xa.Step.lean ====
/- What one grid point of the kernel leaves in its two output windows. -/
module

public import proofs.«01_k».proof.Proof.Xa.Pay
public import Idealize.ShloMosaic.Lib.Pipeline.ReadBack

@[expose] public section

set_option maxRecDepth 16384

noncomputable section

namespace Xa.Ker

open Cert.Kernel26Ideal Cert.Kernel26Ideal.Gen Cert.Kernel26Ideal.Value Idealize.ShloMosaic Idealize.ShloMosaic.TcCoe Idealize.SL.Sem

variable (m : (ℓ : Loc nD τ sig) → Buf (Elt Ideal) ℓ)

/-- The blocks of one grid point are the rows of the arguments. -/
structure Blk (c : Dev nD) (t : Fin cfg0.N) (a : Args) (k : Fin 8) : Prop where
  b0 : ∀ (x : Fin 512) (j : Fin 512), (iblk m c 0 t : FVec Ideal S512x512 .bf16) (ix2 x j) = ((a.q (row k x) j : ℝ) : EReal)
  b1 : ∀ (x : Fin 256) (j : Fin 1024), (iblk m c 1 t : FVec Ideal S256x1024 .bf16) (ix2 x j) = ((a.kv x j : ℝ) : EReal)
  b2 : ∀ (x : Fin 512) (j : Fin 512), (iblk m c 2 t : FVec Ideal S512x512 .f32) (ix2 x j) = ((a.go (row k x) j : ℝ) : EReal)

variable (a : Args) (k : Fin 8)

/-! ## The four heads compute the same functions -/

section
variable (q : Vec Ideal S512x128 .bf16) (u v : Vec Ideal S256x128 .bf16) (g : Vec Ideal S512x128 .f32) (b : Vec Ideal S256x128 .f32)
theorem p18 : k0_pay18 u (k0_pay16 q u v g) = k0_pay10 q u v g := rfl
theorem p24 : k0_pay24 u v (k0_pay21 g) (k0_pay22 q u) = k0_pay10 q u v g := rfl
theorem p3 : k0_pay3 u v (k0_pay27 g) (k0_pay28 q u) k0_pay29 = k0_pay10 q u v g := rfl
theorem p19 : k0_pay19 q (k0_pay16 q u v g) b = k0_pay12 q (k0_pay9 q u v g) (k0_pay11 b) := rfl
theorem p25 : k0_pay25 q v (k0_pay21 g) (k0_pay22 q u) b = k0_pay12 q (k0_pay9 q u v g) (k0_pay11 b) := rfl
theorem p4 : k0_pay4 q v (k0_pay27 g) (k0_pay28 q u) k0_pay29 b = k0_pay12 q (k0_pay9 q u v g) (k0_pay11 b) := rfl
theorem p20 : k0_pay20 (k0_pay14 g) (k0_pay15 q u) b = k0_pay13 (k0_pay7 g) (k0_pay8 q u) b := rfl
theorem p26 : k0_pay26 (k0_pay21 g) (k0_pay22 q u) b = k0_pay13 (k0_pay7 g) (k0_pay8 q u) b := rfl
theorem p5 : k0_pay5 (k0_pay27 g) (k0_pay28 q u) k0_pay29 b = k0_pay13 (k0_pay7 g) (k0_pay8 q u) b := rfl
end

/-- What one grid point adds to the gradient of the keys and of the values. -/
def dkvC (s : Fin 256) (j : Fin 1024) : ℝ :=
  if j.val < 512 then dky (fun x d => hq a (hd j) (row k x) d) (fun x d => hg a (hd j) (row k x) d) (hk a (hd j)) (hv a (hd j)) s (di j)
  else dvl (fun x d => hq a (hd j) (row k x) d) (fun x d => hg a (hd j) (row k x) d) (hk a (hd j)) s (di j)

set_option maxHeartbeats 3000000 in
/-- The gradient of the queries on the rows of one grid point. -/
theorem st3 (c : Dev nD) (t : Fin cfg0.N) (b : Blk m c t a k) (x : Fin 512) (j : Fin 512) :
    ((outsAt0 m c t.val t.isLt).1 : FVec Ideal S512x512 .bf16) (ix2 x j) = ((dq a (row k x) j : ℝ) : EReal) := by
  by_cases q0 : t.val % 8 = 0
  case' pos =>
    rw [outsAt0_A m c t q0]
    frame_out
  case' neg =>
    rw [outsAt0_B m c t q0]
    frame_out
  all_goals obtain ⟨b0, b1, b2⟩ := b
  all_goals canon_tiles y h
  all_goals idx_vars y
  all_goals try simp only [p18, p24, p3]
  all_goals obtain rfl : x = y0 := Fin.ext (by simpa using h0)
  all_goals refine (dqr_at (fun x d => hq a (hd j) (row k x) d) (fun x d => hg a (hd j) (row k x) d) (hk a (hd j)) (hv a (hd j)) _ _ _ _ ?_ ?_ ?_ ?_ x y1).trans ?_
  all_goals first
    | exact congrArg (fun d => ((dqr (hq a (hd j)) (hg a (hd j)) (hk a (hd j)) (hv a (hd j)) (row k x) d : ℝ) : EReal)) (Fin.ext (show y1.val = j.val % 128 by omega))
    | (intro x d
       pointwise [b0, b1, b2]
       first
         | exact congrArg (fun i => ((a.q (row k x) i : ℝ) : EReal)) (Fin.ext (by simp only [col, hd]; omega))
         | exact congrArg (fun i => ((a.kv x i : ℝ) : EReal)) (Fin.ext (by simp only [kcol, hd]; omega))
         | exact congrArg (fun i => ((a.kv x i : ℝ) : EReal)) (Fin.ext (by simp only [vcol, hd]; omega))
         | exact congrArg (fun i => ((a.go (row k x) i : ℝ) : EReal)) (Fin.ext (by simp only [col, hd]; omega)))

end Xa.Ker
end
-- ==== Proof.Xa.Step4.lean ====
/- What one grid point of the kernel leaves in its two output windows. -/
module

public import proofs.«01_k».proof.Proof.Xa.Step
public import proofs.«01_k».proof.Proof.Sgu.Canon
public import Idealize.ShloMosaic.Lib.Pipeline.ReadBack

@[expose] public section

set_option maxRecDepth 16384

noncomputable section

namespace Xa.Ker

open Cert.Kernel26Ideal Cert.Kernel26Ideal.Gen Cert.Kernel26Ideal.Value Idealize.ShloMosaic Idealize.ShloMosaic.TcCoe Idealize.SL.Sem

variable (m : (ℓ : Loc nD τ sig) → Buf (Elt Ideal) ℓ)

variable (a : Args) (k : Fin 8)

set_option maxHeartbeats 3000000 in
/-- The gradient of the keys and of the values after one grid point. -/
theorem st4 (c : Dev nD) (t : Fin cfg0.N) (b : Blk m c t a k) (s : Fin 256) (j : Fin 1024) :
    ((outsAt0 m c t.val t.isLt).2 : FVec Ideal S256x1024 .f32) (ix2 s j) =
      (if t.val % 8 = 0 then (0 : EReal)
        else ((outsAt0 m c (t.val - 1) (Nat.lt_of_le_of_lt (Nat.sub_le _ _) t.isLt)).2 : FVec Ideal S256x1024 .f32) (ix2 s j)) + ((dkvC a k s j : ℝ) : EReal) := by
  by_cases q0 : t.val % 8 = 0
  case' pos =>
    rw [outsAt0_A m c t q0]
    simp only [if_pos q0]
    frame_open; simp (disch := decide) only [↓ View.readCov_skip, ↓ View.readCov_cons_toLoadRect, ↓ View.readCov_fill]; frame_out
    refine (Sgu.canon_append_left (Val := Elt Ideal) [_] _ [_, _, _, _, _, _, _, _] (View.cover_of_tiledBy _ ![256, 128] (by sl_kernel_rfl) _)).trans ?_
  case' neg =>
    rw [outsAt0_B m c t q0]
    simp only [if_neg q0]
    frame_out
  all_goals obtain ⟨b0, b1, b2⟩ := b
  all_goals canon_tiles y h
  all_goals idx_vars y
  all_goals try simp only [p19, p25, p4, p20, p26, p5]
  all_goals obtain rfl : s = y0 := Fin.ext (by simpa using h0)
  all_goals first
    | refine (dky_at (fun x d => hq a (hd j) (row k x) d) (fun x d => hg a (hd j) (row k x) d) (hk a (hd j)) (hv a (hd j)) _ _ _ _ ?_ ?_ ?_ ?_ _ s y1).trans ?_
    | refine (dvl_at (fun x d => hq a (hd j) (row k x) d) (fun x d => hg a (hd j) (row k x) d) (hk a (hd j)) _ _ _ ?_ ?_ ?_ _ s y1).trans ?_
  all_goals first
    | (intro x d
       pointwise [b0, b1, b2]
       first
         | exact congrArg (fun i => ((a.q (row k x) i : ℝ) : EReal)) (Fin.ext (by simp only [col, hd]; omega))
         | exact congrArg (fun i => ((a.kv x i : ℝ) : EReal)) (Fin.ext (by simp only [kcol, hd]; omega))
         | exact congrArg (fun i => ((a.kv x i : ℝ) : EReal)) (Fin.ext (by simp only [vcol, hd]; omega))
         | exact congrArg (fun i => ((a.go (row k x) i : ℝ) : EReal)) (Fin.ext (by simp only [col, hd]; omega)))
    | (have e : y1 = di j := Fin.ext (by simp only [di]; omega)
       unfold dkvC
       first
         | rw [if_pos (by omega : j.val < 512), e]
         | rw [if_neg (by omega : ¬j.val < 512), e]
       refine congrArg (· + _) ?_
       first
         | (pointwise [k0_pay6]; done)
         | (pointwise
            exact congrArg (fun i : Fin 1024 => ((outsAt0 m c (t.val - 1) (Nat.lt_of_le_of_lt (Nat.sub_le _ _) t.isLt)).2 : FVec Ideal S256x1024 .f32) (ix2 s i))
              (Fin.ext (by simp only [di]; omega))))

end Xa.Ker
end
-- ==== Proof.Xa.Ref.lean ====
/- The reference's stages as real arrays. -/
module

public import proofs.«01_k».proof.Proof.Xa.Spec
public import proofs.«01_k».proof.Proof.Gen.Reference26Ideal.Read
public import Idealize.ShloMosaic.Lib.Pipeline.ValueKit

@[expose] public section

set_option maxRecDepth 16384

noncomputable section

namespace Xa.Ref

open Cert.Reference26Ideal Cert.Reference26Ideal.Gen Cert.Reference26Ideal.Read Idealize.ShloMosaic Idealize.ShloMosaic.TcCoe
open Sgu (coe_sum coe_div)

variable (a : Args)
variable (x0 : (⟨S4096x512, .bf16⟩ : BufTy).Contents (Elt Ideal)) (x1 : (⟨S256x1024, .bf16⟩ : BufTy).Contents (Elt Ideal))
variable (x2 : (⟨S4096x512, .f32⟩ : BufTy).Contents (Elt Ideal))

/-- The reference's arguments are the real arrays. -/
structure Mem : Prop where
  h0 : ∀ i j, (x0 : FVec Ideal S4096x512 .bf16) (ix2 i j) = ((a.q i j : ℝ) : EReal)
  h1 : ∀ m j, (x1 : FVec Ideal S256x1024 .bf16) (ix2 m j) = ((a.kv m j : ℝ) : EReal)
  h2 : ∀ i j, (x2 : FVec Ideal S4096x512 .f32) (ix2 i j) = ((a.go i j : ℝ) : EReal)

variable {a x0 x1 x2}

theorem q_at (b : Mem a x0 x1 x2) (i : Fin 4096) (h : Fin 4) (d : Fin 128) :
    (val_main_v2 x0 : FVec Ideal S4096x4x128 .f32) (ix3 i h d) = ((hq a h i d : ℝ) : EReal) := by
  pointwise [val_main_v2, val_main_v0, b.h0]
  rfl

theorem k_at (b : Mem a x0 x1 x2) (m : Fin 256) (h : Fin 4) (d : Fin 128) :
    (val_main_v5 x1 : FVec Ideal S256x4x128 .f32) (ix3 m h d) = ((hk a h m d : ℝ) : EReal) := by
  pointwise [val_main_v5, val_main_v4, val_main_v3, val_main_v1, b.h1]
  rfl

theorem v_at (b : Mem a x0 x1 x2) (m : Fin 256) (h : Fin 4) (d : Fin 128) :
    (val_main_v7 x1 : FVec Ideal S256x4x128 .f32) (ix3 m h d) = ((hv a h m d : ℝ) : EReal) := by
  pointwise [val_main_v7, val_main_v6, val_main_v3, val_main_v1, b.h1]
  rfl

theorem s_at (b : Mem a x0 x1 x2) (h : Fin 4) (i : Fin 4096) (m : Fin 256) :
    (val_main_v10 x0 x1 : FVec Ideal S4x4096x256 .f32) (ix3 h i m) = ((sco (hq a h) (hk a h) i m : ℝ) : EReal) := by
  pointwise [val_main_v10, val_main_v9, val_main_v8, val_main_cst, q_at b, k_at b, lit_sc]
  simp only [← EReal.coe_mul, ← coe_sum]
  rfl

/-- The host's maximum of a row. -/
theorem hmax_at (y : FVec Ideal S4x4096x256 .f32) (h : Fin 4) (i : Fin 4096) :
    (Host.reduce FloatOps.maximumf y (constant S_ .f32 0xFF800000#32) reducesTo_S4x4096x256_S4x4096_d2 h_S_ : FVec Ideal S4x4096 .f32) (ix2 h i)
      = Finset.univ.fold max (⊥ : EReal) (fun m => y (ix3 h i m)) := by
  pointwise [lit_bot]

/-- The largest score of a row is a real. -/
theorem max_at (b : Mem a x0 x1 x2) (h : Fin 4) (i : Fin 4096) :
    ∃ M : ℝ, (val_main_v18 x0 x1 : FVec Ideal S4x4096 .f32) (ix2 h i) = ((M : ℝ) : EReal) := by
  obtain ⟨M, hM⟩ := fold_max (fun m => sco (hq a h) (hk a h) i m) Finset.univ ⟨0, Finset.mem_univ _⟩
  refine ⟨M, ?_⟩
  have e : (val_main_v11 x0 x1 : FVec Ideal S4x4096 .f32) (ix2 h i) = ((M : ℝ) : EReal) := by
    have e2 := hmax_at (val_main_v10 x0 x1) h i
    rw [show (fun m : Fin 256 => (val_main_v10 x0 x1 : FVec Ideal S4x4096x256 .f32) (ix3 h i m)) = fun m => ((sco (hq a h) (hk a h) i m : ℝ) : EReal)
      from funext fun m => s_at b h i m] at e2
    unfold val_main_v11 val_main_cst_0
    exact e2.trans hM
  rw [val_main_v18_apply, val_main_v17_apply, val_main_cst_2_apply, e, Ideal.maximumf_eq_max]
  exact (congrArg (max · _) lit_bot).trans (bot_sup_eq _)

variable {h : Fin 4} {i : Fin 4096} {M : ℝ}

/-- The sum of the exponentials, the largest score subtracted. -/
def den (a : Args) (h : Fin 4) (i : Fin 4096) (M : ℝ) : ℝ := ∑ k, Real.exp (sco (hq a h) (hk a h) i k - M)

theorem e_at (b : Mem a x0 x1 x2) (hM : (val_main_v18 x0 x1 : FVec Ideal S4x4096 .f32) (ix2 h i) = ((M : ℝ) : EReal)) (m : Fin 256) :
    (val_main_v31 x0 x1 : FVec Ideal S4x4096x256 .f32) (ix3 h i m) = ((Real.exp (sco (hq a h) (hk a h) i m - M) : ℝ) : EReal) := by
  pointwise [val_main_v31, val_main_v30, val_main_v29, val_main_v28, s_at b, hM]
  rw [← EReal.coe_sub, Ideal.exp_coe]

theorem l_at (b : Mem a x0 x1 x2) (hM : (val_main_v18 x0 x1 : FVec Ideal S4x4096 .f32) (ix2 h i) = ((M : ℝ) : EReal)) (z : Fin 1) :
    (val_main_v33 x0 x1 : FVec Ideal S4x4096x1 .f32) (ix3 h i z) = ((den a h i M : ℝ) : EReal) := by
  pointwise [val_main_v33, val_main_v32, val_main_cst_8, e_at b hM]
  simp only [← coe_sum]
  rfl

theorem p_at (b : Mem a x0 x1 x2) (hM : (val_main_v18 x0 x1 : FVec Ideal S4x4096 .f32) (ix2 h i) = ((M : ℝ) : EReal)) (m : Fin 256) :
    (val_main_v35 x0 x1 : FVec Ideal S4x4096x256 .f32) (ix3 h i m) = ((prb (hq a h) (hk a h) i m : ℝ) : EReal) := by
  pointwise [val_main_v35, val_main_v34, e_at b hM, l_at b hM]
  refine (coe_div _ _ (sum_pos _ _ i M).ne').trans ?_
  exact congrArg _ (prb_sub _ _ i m M)

theorem g_at (b : Mem a x0 x1 x2) (d : Fin 128) :
    (val_main_v43 x2 : FVec Ideal S4x128x4096 .f32) (ix3 h d i) = ((hg a h i d : ℝ) : EReal) := by
  pointwise [val_main_v43, val_main_v42, b.h2]
  rfl

theorem dp_at (b : Mem a x0 x1 x2) (m : Fin 256) :
    (val_main_v44 x1 x2 : FVec Ideal S4x4096x256 .f32) (ix3 h i m) = ((dpr (hg a h) (hv a h) i m : ℝ) : EReal) := by
  pointwise [val_main_v44, g_at b, v_at b]
  simp only [← EReal.coe_mul, ← coe_sum]
  rfl

theorem r_at (b : Mem a x0 x1 x2) (hM : (val_main_v18 x0 x1 : FVec Ideal S4x4096 .f32) (ix2 h i) = ((M : ℝ) : EReal)) (z : Fin 1) :
    (val_main_v38 x0 x1 : FVec Ideal S4x4096x1 .f32) (ix3 h i z) = ((1 / (den a h i M * den a h i M) : ℝ) : EReal) := by
  have hp : 0 < den a h i M := sum_pos _ _ i M
  pointwise [val_main_v38, val_main_v37, val_main_v36, val_main_cst_9, l_at b hM]
  rw [← EReal.coe_mul]
  exact (congrArg (Ideal.div · _) EReal.coe_one.symm).trans (coe_div _ _ (mul_pos hp hp).ne')

theorem t_at (b : Mem a x0 x1 x2) (hM : (val_main_v18 x0 x1 : FVec Ideal S4x4096 .f32) (ix2 h i) = ((M : ℝ) : EReal)) (m : Fin 256) :
    (val_main_v56 x0 x1 x2 : FVec Ideal S4x4096x256 .f32) (ix3 h i m) =
      ((-∑ k, dpr (hg a h) (hv a h) i k * (1 / (den a h i M * den a h i M)) * Real.exp (sco (hq a h) (hk a h) i k - M) : ℝ) : EReal) := by
  pointwise [val_main_v56, val_main_v55, val_main_v52, val_main_v51, val_main_v50, val_main_v49, val_main_v48, val_main_v47, val_main_cst_10, val_main_cst_11, dp_at b, r_at b hM, e_at b hM]
  simp only [← EReal.coe_mul, ← coe_sum, ← EReal.coe_neg, Fin.sum_univ_one]

theorem ds_at (b : Mem a x0 x1 x2) (hM : (val_main_v18 x0 x1 : FVec Ideal S4x4096 .f32) (ix2 h i) = ((M : ℝ) : EReal)) (m : Fin 256) :
    (val_main_v60 x0 x1 x2 : FVec Ideal S4x4096x256 .f32) (ix3 h i m) = ((dsc (hq a h) (hg a h) (hk a h) (hv a h) i m : ℝ) : EReal) := by
  have hp : 0 < den a h i M := sum_pos _ _ i M
  pointwise [val_main_v60, val_main_v59, val_main_v58, val_main_v57, val_main_v54, val_main_v53, val_main_cst_12, dp_at b, l_at b hM, t_at b hM, e_at b hM, lit_sc]
  rw [show Ideal.div _ _ = _ from coe_div _ _ hp.ne']
  simp only [← EReal.coe_mul, ← EReal.coe_add]
  exact congrArg _ (dsc_quot _ _ _ _ i m M _ rfl)

end Xa.Ref
end
-- ==== Proof.Xa.RefOut.lean ====
/- The reference's results as real arrays. -/
module

public import proofs.«01_k».proof.Proof.Xa.Ref
public import proofs.«01_k».proof.Proof.Gen.Reference26Ideal.Read
public import Idealize.ShloMosaic.Lib.Pipeline.ValueKit

@[expose] public section

set_option maxRecDepth 16384

noncomputable section

namespace Xa.Ref

open Cert.Reference26Ideal Cert.Reference26Ideal.Gen Cert.Reference26Ideal.Read Idealize.ShloMosaic Idealize.ShloMosaic.TcCoe
open Sgu (coe_sum coe_div)

variable {a : Args}
variable {x0 : (⟨S4096x512, .bf16⟩ : BufTy).Contents (Elt Ideal)} {x1 : (⟨S256x1024, .bf16⟩ : BufTy).Contents (Elt Ideal)}
variable {x2 : (⟨S4096x512, .f32⟩ : BufTy).Contents (Elt Ideal)}

/-- The gradient of the queries, as the reference returns it. -/
theorem dq_at (b : Mem a x0 x1 x2) (i : Fin 4096) (j : Fin 512) :
    (val_main_v72 x0 x1 x2 : FVec Ideal S4096x512 .bf16) (ix2 i j) = ((dq a i j : ℝ) : EReal) := by
  have e : ∀ (h : Fin 4) (d : Fin 128), (val_main_v64 x0 x1 x2 : FVec Ideal S4096x4x128 .f32) (ix3 i h d) = ((dqr (hq a h) (hg a h) (hk a h) (hv a h) i d : ℝ) : EReal) := by
    intro h d
    obtain ⟨M, hM⟩ := max_at b h i
    pointwise [val_main_v64, val_main_v63, ds_at b hM, k_at b]
    simp only [← EReal.coe_mul, ← coe_sum]
    rfl
  pointwise [val_main_v72, val_main_v71, e]
  exact congrArg (fun h : Fin 4 => ((dqr (hq a h) (hg a h) (hk a h) (hv a h) i (di j) : ℝ) : EReal)) (Fin.ext (by show j.val / 128 = j.val / 128 % 4; omega))

theorem dv_at (b : Mem a x0 x1 x2) (h : Fin 4) (m : Fin 256) (d : Fin 128) :
    (val_main_v46 x0 x1 x2 : FVec Ideal S256x4x128 .f32) (ix3 m h d) = ((dvl (hq a h) (hg a h) (hk a h) m d : ℝ) : EReal) := by
  have e : ∀ i, (val_main_v35 x0 x1 : FVec Ideal S4x4096x256 .f32) (ix3 h i m) = ((prb (hq a h) (hk a h) i m : ℝ) : EReal) := by
    intro i
    obtain ⟨M, hM⟩ := max_at b h i
    exact p_at b hM m
  pointwise [val_main_v46, val_main_v45, g_at b, e]
  simp only [← EReal.coe_mul, ← coe_sum]
  exact congrArg _ (Finset.sum_congr rfl fun i _ => mul_comm _ _)

theorem dk_at (b : Mem a x0 x1 x2) (h : Fin 4) (m : Fin 256) (d : Fin 128) :
    (val_main_v62 x0 x1 x2 : FVec Ideal S256x4x128 .f32) (ix3 m h d) = ((dky (hq a h) (hg a h) (hk a h) (hv a h) m d : ℝ) : EReal) := by
  have e : ∀ i, (val_main_v60 x0 x1 x2 : FVec Ideal S4x4096x256 .f32) (ix3 h i m) = ((dsc (hq a h) (hg a h) (hk a h) (hv a h) i m : ℝ) : EReal) := by
    intro i
    obtain ⟨M, hM⟩ := max_at b h i
    exact ds_at b hM m
  pointwise [val_main_v62, val_main_v61, q_at b, e]
  simp only [← EReal.coe_mul, ← coe_sum]
  rfl

/-- The gradient of the keys and of the values, as the reference returns it. -/
theorem dkv_at (b : Mem a x0 x1 x2) (m : Fin 256) (j : Fin 1024) :
    (val_main_v70 x0 x1 x2 : FVec Ideal S256x1024 .f32) (ix2 m j) = ((dkv a m j : ℝ) : EReal) := by
  pointwise [val_main_v70, val_main_v69, val_main_v68, val_main_v67, val_main_v66, val_main_v65, val_main_cst_13, val_main_cst_14, dk_at b, dv_at b]
  by_cases hj : j.val < 512
  · refine (congrArg₂ (· + ·) (dif_neg (by omega)) (dif_pos (by omega))).trans ((zero_add _).trans ?_)
    exact congrArg _ (if_pos hj).symm
  · refine (congrArg₂ (· + ·) (dif_pos (by omega)) (dif_neg (by omega))).trans ((add_zero _).trans ?_)
    exact congrArg _ (if_neg hj).symm

end Xa.Ref
end
-- ==== Proof.Xa.Results.lean ====
/- The kernel's two results are the reference's. -/
module

public import proofs.«01_k».proof.Proof.Xa.Step4
public import proofs.«01_k».proof.Proof.Xa.RefOut
public import Idealize.ShloMosaic.Lib.Pipeline.ValueKit

@[expose] public section

set_option maxRecDepth 16384

noncomputable section

namespace Xa.Ker

open Cert.Kernel26Ideal Cert.Kernel26Ideal.Gen Idealize.ShloMosaic Idealize.ShloMosaic.TcCoe Idealize.SL.Sem

variable (m : (ℓ : Loc nD τ sig) → Buf (Elt Ideal) ℓ) (a : Args) (c : Dev nD)

/-- The index maps of the windows. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] := (by decide +kernel : ∀ t : Fin grid0.N, _)

/-- The launch memory holds the arguments. -/
abbrev Mem : Prop := Ref.Mem a (m ((c : Thread nD τ).loc main_arg0)) (m ((c : Thread nD τ).loc main_arg1)) (m ((c : Thread nD τ).loc main_arg2))

/-- A grid point's chunk of rows. -/
def pt (t : Fin cfg0.N) : Fin 8 := ⟨t.val, lt_of_lt_of_eq t.isLt N_0⟩

/-- The blocks of a grid point. -/
theorem blk (M : Mem m a c) (t : Fin cfg0.N) : Blk m c t a (pt t) := by
  have ht : t.val < 8 := lt_of_lt_of_eq t.isLt N_0
  constructor
  · intro x j
    refine Eq.trans ?_ (M.h0 _ _)
    blk_ext [iblk, V, idx t]
    simp only [row, pt]
  · intro x j
    refine Eq.trans ?_ (M.h1 _ _)
    blk_ext [iblk, V, idx t]
  · intro x j
    refine Eq.trans ?_ (M.h2 _ _)
    blk_ext [iblk, V, idx t]
    simp only [row, pt]

/-- The gradient of the keys and values is the sum of what the grid points add. -/
theorem sum_dkv (s : Fin 256) (j : Fin 1024) : ∑ k, dkvC a k s j = dkv a s j := by
  unfold dkvC dkv
  split
  · exact (sum_row fun x => dsc (hq a (hd j)) (hg a (hd j)) (hk a (hd j)) (hv a (hd j)) x s * hq a (hd j) x (di j)).symm
  · exact (sum_row fun x => prb (hq a (hd j)) (hk a (hd j)) x s * hg a (hd j) x (di j)).symm

/-- The gradient of the queries after the run is the reference's. -/
theorem final3 (M : Mem m a c) : (dats m 0 c).arrAt 3 (cfgs 0).N
    = Cert.Reference26Ideal.Read.val_main_v72 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 8 := lt_of_lt_of_eq t.isLt N_0
  blk_simp
  rw [after0_3]
  idx_vars y
  refine (st3 m a (pt t) c t (blk m a c M t) _ _).trans ?_
  refine (Ref.dq_at M _ _).symm.trans ?_
  blk_ext [idx t]
  simp only [row, pt]

/-- The gradient of the keys and values after the run is the reference's. -/
theorem final4 (M : Mem m a c) : (dats m 0 c).arrAt 4 (cfgs 0).N
    = Cert.Reference26Ideal.Read.val_main_v70 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hf := (flush0_4 t).mp hf
  have ht : t.val < 8 := lt_of_lt_of_eq t.isLt N_0
  blk_simp
  rw [after0_4]
  rw [Pipeline.eq_sum_fin_of_reset_step_apply_of_flush (fun n h => (outsAt0 m c n h).2) 8 (fun _ => 0)
    (fun t j => ((dkvC a (pt t) (j 0) (j 1) : ℝ) : EReal))
    (fun t h j => by
      obtain ⟨x, y, rfl⟩ : ∃ (x : Fin 256) (y : Fin 1024), j = ix2 x y := ⟨j 0, j 1, eq_ix2 j⟩
      refine (st4 m a (pt t) c t (blk m a c M t) x y).trans ?_
      rw [if_pos h]; rfl)
    (fun t h j => by
      obtain ⟨x, y, rfl⟩ : ∃ (x : Fin 256) (y : Fin 1024), j = ix2 x y := ⟨j 0, j 1, eq_ix2 j⟩
      refine (st4 m a (pt t) c t (blk m a c M t) x y).trans ?_
      rw [if_neg h]; rfl) t hf _, zero_add]
  idx_vars y
  refine Eq.trans (b := ((dkv a y0 y1 : ℝ) : EReal)) ?_ ?_
  · rw [← sum_dkv, Sgu.coe_sum]
    exact Finset.sum_congr rfl fun s _ => congrArg (fun k => ((dkvC a k y0 y1 : ℝ) : EReal)) (Fin.ext (by simp only [pt]; omega))
  · refine (Ref.dkv_at M _ _).symm.trans ?_
    blk_ext [idx t]

end Xa.Ker
end
-- ==== Proof.Xa.Claims.lean ====
/- The claims of the gradient of cross attention: frames and values. No operation is replaced. -/
module

public import proofs.«01_k».proof.Defs
public import proofs.«01_k».proof.Proof.Xa.Results
public import proofs.«01_k».proof.Proof.Gen.Kernel26.Frame
public import proofs.«01_k».proof.Proof.Gen.Reference26Ideal.Run
public import proofs.«01_k».proof.Proof.Gen.Pre_finite26
public import Idealize.ShloMosaic.Lib.Quiescent

@[expose] public section

set_option maxRecDepth 16384

noncomputable section

namespace Xa.Claims

open Idealize.ShloMosaic Idealize.ShloMosaic.TcCoe Idealize.SL.Sem
open Sgu (finite_at)

/-- The real arrays that finite arguments hold. -/
def args (x0 : FVec Ideal Cert.Kernel26Ideal.S4096x512 .bf16) (x1 : FVec Ideal Cert.Kernel26Ideal.S256x1024 .bf16)
    (x2 : FVec Ideal Cert.Kernel26Ideal.S4096x512 .f32) : Args where
  q i j := EReal.toReal (x0 (ix2 i j))
  kv i j := EReal.toReal (x1 (ix2 i j))
  go i j := EReal.toReal (x2 (ix2 i j))

/-- The kernel runs to its end and leaves its arguments. -/
theorem frame_p : Cert.quiescent_Kernel26 := fun m ρ _ => Cert.Kernel26.Gen.frame m ρ
/-- So does the kernel over exact numbers, -/
theorem frame_pi : Cert.quiescent_Kernel26Ideal := fun m ρ _ => Cert.Kernel26Ideal.Gen.frame m ρ
/-- also at finite arguments, -/
theorem frame_pi_pre : Cert.quiescent_Kernel26Ideal_pre_finite26 := fun m ρ _ => Cert.Kernel26Ideal.Gen.frame m ρ
/-- and the reference, -/
theorem frame_ri : Cert.quiescent_Reference26Ideal := fun m ρ _ =>
  (θ_run Cert.Reference26Ideal.defs _ _).mono (fun r h => ⟨fun c => (h c).2.2, sem_eq_zero_of_no_sems (by decide) r.2⟩)
    (Cert.Reference26Ideal.Value.run (F := Ideal) m ρ)
/-- also at finite arguments. -/
theorem frame_ri_pre : Cert.quiescent_Reference26Ideal_pre_finite26 := fun m ρ _ => frame_ri m ρ trivial

/-- Finite arguments hold real arrays. -/
theorem mem (m : (ℓ : Loc Cert.Kernel26Ideal.nD Cert.Kernel26Ideal.τ Cert.Kernel26Ideal.sig) → Buf (Elt Ideal) ℓ)
    (hp : Cert.Pre_Kernel26Ideal_finite26 m) (c : Dev Cert.Kernel26Ideal.nD) : ∃ a, Ker.Mem m a c := by
  obtain ⟨p0, p1, p2⟩ := hp c
  refine ⟨args (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1))
    (m ((c.tc : Thread Cert.Kernel26Ideal.nD Cert.Kernel26Ideal.τ).loc Cert.Kernel26Ideal.main_arg2)), ⟨fun i j => ?_, fun i j => ?_, fun i j => ?_⟩⟩
  · exact finite_at _ _ _ p0 _
  · exact finite_at _ _ _ p1 _
  · exact finite_at _ _ _ p2 _

/-- At finite arguments the kernel's two results are the reference's. -/
theorem algebraic : Cert.algebraic_Kernel26Ideal_Reference26Ideal_pre_finite26 := by
  intro m ρ m' ρ' hp hagree
  refine ⟨_, _, Cert.Kernel26Ideal.Value.run_blocks (F := Ideal) m ρ, ?_⟩
  refine (θ_run Cert.Reference26Ideal.defs _ _).mono (fun _ h c => ?_) (Cert.Reference26Ideal.Value.run (F := Ideal) m' ρ')
  obtain ⟨a, M⟩ := mem m hp c
  obtain ⟨a0, a1, a2⟩ := hagree c
  obtain ⟨h0, h1, hr⟩ := h c
  rw [Cert.Reference26Ideal.Read.val_main_v72_eq] at h0
  rw [Cert.Reference26Ideal.Read.val_main_v70_eq] at h1
  refine ⟨h0.trans (Eq.trans ?_ (Ker.final3 m a c M).symm), h1.trans (Eq.trans ?_ (Ker.final4 m a c M).symm), hr⟩
  · exact congr (congrArg₂ (Cert.Reference26Ideal.Read.val_main_v72 (F := Ideal)) a0 a1) a2
  · exact congr (congrArg₂ (Cert.Reference26Ideal.Read.val_main_v70 (F := Ideal)) a0 a1) a2

end Xa.Claims
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Pre_finite26
public import proofs.«01_k».proof.Proof.Sgu.Claims
public import proofs.«01_k».proof.Proof.Prod.Claims
public import proofs.«01_k».proof.Proof.Xa.Claims
public import Idealize.ShloMosaic.Adequacy
public import Idealize.ShloMosaic.Init

@[expose] public section

noncomputable section

namespace Cert.Proof

open Idealize.ShloMosaic Idealize.SL.Sem

/-- All claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Pre_finite.Gen.facts, Cert.Pre_finite26.Gen.facts,
    Sgu.Claims.frame_p, Sgu.Claims.frame_pi, Sgu.Claims.frame_pi_pre, Sgu.Claims.frame_ri, Sgu.Claims.frame_ri_pre,
    Prod.Claims.frame_p2, Prod.Claims.frame_pi2, Prod.Claims.frame_ri2,
    Prod.Claims.frame_p3, Prod.Claims.frame_pi3, Prod.Claims.frame_ri3,
    Prod.Claims.frame_p4, Prod.Claims.frame_pi4, Prod.Claims.frame_ri4,
    Prod.Claims.frame_p5, Prod.Claims.frame_pi5, Prod.Claims.frame_ri5,
    Prod.Claims.frame_p6, Prod.Claims.frame_pi6, Prod.Claims.frame_ri6,
    Prod.Claims.frame_p7, Prod.Claims.frame_pi7, Prod.Claims.frame_ri7,
    Prod.Claims.frame_p8, Prod.Claims.frame_pi8, Prod.Claims.frame_ri8,
    Prod.Claims.frame_p9, Prod.Claims.frame_pi9, Prod.Claims.frame_ri9,
    Prod.Claims.frame_p10, Prod.Claims.frame_pi10, Prod.Claims.frame_ri10,
    Prod.Claims.frame_p11, Prod.Claims.frame_pi11, Prod.Claims.frame_ri11,
    Prod.Claims.frame_p12, Prod.Claims.frame_pi12, Prod.Claims.frame_ri12,
    Prod.Claims.frame_p13, Prod.Claims.frame_pi13, Prod.Claims.frame_ri13,
    Prod.Claims.frame_p14, Prod.Claims.frame_pi14, Prod.Claims.frame_ri14,
    Prod.Claims.frame_p15, Prod.Claims.frame_pi15, Prod.Claims.frame_ri15,
    Prod.Claims.frame_p16, Prod.Claims.frame_pi16, Prod.Claims.frame_ri16,
    Prod.Claims.frame_p17, Prod.Claims.frame_pi17, Prod.Claims.frame_ri17,
    Prod.Claims.frame_p18, Prod.Claims.frame_pi18, Prod.Claims.frame_ri18,
    Prod.Claims.frame_p19, Prod.Claims.frame_pi19, Prod.Claims.frame_ri19,
    Prod.Claims.frame_p20, Prod.Claims.frame_pi20, Prod.Claims.frame_ri20,
    Prod.Claims.frame_p21, Prod.Claims.frame_pi21, Prod.Claims.frame_ri21,
    Prod.Claims.frame_p22, Prod.Claims.frame_pi22, Prod.Claims.frame_ri22,
    Prod.Claims.frame_p23, Prod.Claims.frame_pi23, Prod.Claims.frame_ri23,
    Prod.Claims.frame_p24, Prod.Claims.frame_pi24, Prod.Claims.frame_ri24,
    Prod.Claims.frame_p25, Prod.Claims.frame_pi25, Prod.Claims.frame_ri25,
    Xa.Claims.frame_p, Xa.Claims.frame_pi, Xa.Claims.frame_pi_pre, Xa.Claims.frame_ri, Xa.Claims.frame_ri_pre,
    Sgu.Claims.preserves, Sgu.Claims.algebraic,
    trivial, Prod.Claims.algebraic2,
    trivial, Prod.Claims.algebraic3,
    trivial, Prod.Claims.algebraic4,
    trivial, Prod.Claims.algebraic5,
    trivial, Prod.Claims.algebraic6,
    trivial, Prod.Claims.algebraic7,
    trivial, Prod.Claims.algebraic8,
    trivial, Prod.Claims.algebraic9,
    trivial, Prod.Claims.algebraic10,
    trivial, Prod.Claims.algebraic11,
    trivial, Prod.Claims.algebraic12,
    trivial, Prod.Claims.algebraic13,
    trivial, Prod.Claims.algebraic14,
    trivial, Prod.Claims.algebraic15,
    trivial, Prod.Claims.algebraic16,
    trivial, Prod.Claims.algebraic17,
    trivial, Prod.Claims.algebraic18,
    trivial, Prod.Claims.algebraic19,
    trivial, Prod.Claims.algebraic20,
    trivial, Prod.Claims.algebraic21,
    trivial, Prod.Claims.algebraic22,
    trivial, Prod.Claims.algebraic23,
    trivial, Prod.Claims.algebraic24,
    trivial, Prod.Claims.algebraic25,
    trivial, Xa.Claims.algebraic⟩

end Cert.Proof

end
